-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x16x1024 : Shape := ⟨3, ![2048, 16, 1024]⟩
abbrev S16 : Shape := ⟨1, ![16]⟩
abbrev S16x2048 : Shape := ⟨2, ![16, 2048]⟩
abbrev S256x16x1024 : Shape := ⟨3, ![256, 16, 1024]⟩
abbrev S16x256 : Shape := ⟨2, ![16, 256]⟩
abbrev S256x16 : Shape := ⟨2, ![256, 16]⟩
abbrev S256x16x1 : Shape := ⟨3, ![256, 16, 1]⟩
abbrev S16x16 : Shape := ⟨2, ![16, 16]⟩
abbrev S2048 : Shape := ⟨1, ![2048]⟩
abbrev S_ : Shape := ⟨0, ![]⟩
abbrev S1x2048 : Shape := ⟨2, ![1, 2048]⟩
abbrev S1 : Shape := ⟨1, ![1]⟩
abbrev S1x16 : Shape := ⟨2, ![1, 16]⟩
abbrev S16x1 : Shape := ⟨2, ![16, 1]⟩

abbrev nBuf : Table → Nat
  | .hbm => 7
  | .local .tc .vmem => 4
  | .local .scVector .vmem => 4
  | _ => 0

abbrev bufTy : (tb : Table) → Fin (nBuf tb) → BufTy
  | .hbm, ⟨0, _⟩ => ⟨S2048x16x1024, .f32⟩
  | .hbm, ⟨1, _⟩ => ⟨S16, .i32⟩
  | .hbm, ⟨2, _⟩ => ⟨S16x2048, .i32⟩
  | .hbm, ⟨3, _⟩ => ⟨S16x2048, .i32⟩
  | .hbm, ⟨4, _⟩ => ⟨S16x16, .i32⟩
  | .hbm, ⟨5, _⟩ => ⟨S16x1, .i32⟩
  | .hbm, ⟨6, _⟩ => ⟨S16, .i32⟩
  | .local .tc .vmem, ⟨0, _⟩ => ⟨S256x16x1024, .f32⟩
  | .local .tc .vmem, ⟨1, _⟩ => ⟨S256x16x1024, .f32⟩
  | .local .tc .vmem, ⟨2, _⟩ => ⟨S16x256, .i32⟩
  | .local .tc .vmem, ⟨3, _⟩ => ⟨S16x256, .i32⟩
  | .local .scVector .vmem, ⟨0, _⟩ => ⟨S2048, .i32⟩
  | .local .scVector .vmem, ⟨1, _⟩ => ⟨S2048, .i32⟩
  | .local .scVector .vmem, ⟨2, _⟩ => ⟨S16, .i32⟩
  | .local .scVector .vmem, ⟨3, _⟩ => ⟨S16, .i32⟩
  | _, _ => ⟨S2048x16x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 2, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r0 : BitVec 32 := 0#32
  ![v1.toNat, 0]

def k1_chk1 (i : grid1.Coords) (v12 : IVec S16 32) : Prop :=
  (∀ (k1_h1 : k1_cond1 i = 1#1), ∀ a x, ((![v12] : Fin 1 → IVec S16 32) a x).toNat < S16.size a)
theorem k1_idx1_inb : ∀ (i : grid1.Coords) (v12 : IVec S16 32) (k1_hw1 : k1_chk1 i v12), ∀ (k1_h1 : k1_cond1 i = 1#1), ∀ a x, ((![v12] : Fin 1 → IVec S16 32) a x).toNat < S16.size a := fun i v12 k1_hw1 k1_h1 => k1_hw1 k1_h1
@[reducible] def k1_t1_loop : Scf.Loop 32 :=
  let c0_i32_4 : BitVec 32 := 0#32
  let c128_i32 : BitVec 32 := 128#32
  let v16 : BitVec 32 := Scalar.addi c0_i32_4 c128_i32
  let c1_i32_5 : BitVec 32 := 1#32
  ⟨c0_i32_4, v16, c1_i32_5⟩
def k1_off2 (k1_t1 : Fin k1_t1_loop.trips) : Fin 1 → Nat :=
  let c0_i32_4 : BitVec 32 := 0#32
  let c1_i32_5 : BitVec 32 := 1#32
  let arg10 : BitVec 32 := Scf.iv c0_i32_4 c1_i32_5 k1_t1
  let c16_i32_7 : BitVec 32 := 16#32
  let v19 : BitVec 32 := Scalar.muli arg10 c16_i32_7
  let v21 : Index := Scalar.indexCast v19
  ![v21.toNat]

def k1_chk2 (i : grid1.Coords) (v28 : IVec S16 32) : Prop :=
  (∀ (k1_h1 : k1_cond1 i = 1#1), ∀ a x, ((![v28] : Fin 1 → IVec S16 32) a x).toNat < S2048.size a)
theorem k1_idx2_inb : ∀ (i : grid1.Coords) (v28 : IVec S16 32) (k1_hw2 : k1_chk2 i v28), ∀ (k1_h1 : k1_cond1 i = 1#1), ∀ a x, ((![v28] : Fin 1 → IVec S16 32) a x).toNat < S2048.size a := fun i v28 k1_hw2 k1_h1 => k1_hw2 k1_h1

def k1_chk3 (i : grid1.Coords) (v47 : IVec S16 32) : Prop :=
  (∀ (k1_h1 : k1_cond1 i = 1#1), ∀ a x, ((![v47] : Fin 1 → IVec S16 32) a x).toNat < S2048.size a)
theorem k1_idx3_inb : ∀ (i : grid1.Coords) (v47 : IVec S16 32) (k1_hw3 : k1_chk3 i v47), ∀ (k1_h1 : k1_cond1 i = 1#1), ∀ a x, ((![v47] : Fin 1 → IVec S16 32) a x).toNat < S2048.size a := fun i v47 k1_hw3 k1_h1 => k1_hw3 k1_h1
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r2 : BitVec 32 := 0#32
  ![v1.toNat, 0]
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x16x1024 : Shape := ⟨3, ![2048, 16, 1024]⟩
abbrev S16 : Shape := ⟨1, ![16]⟩
abbrev S_ : Shape := ⟨0, ![]⟩
abbrev S2048x16 : Shape := ⟨2, ![2048, 16]⟩
abbrev S16x2048 : Shape := ⟨2, ![16, 2048]⟩
abbrev S16x1 : Shape := ⟨2, ![16, 1]⟩
abbrev S16x2047 : Shape := ⟨2, ![16, 2047]⟩
abbrev S2048 : Shape := ⟨1, ![2048]⟩
abbrev S1x2048 : Shape := ⟨2, ![1, 2048]⟩
abbrev S16x2049 : Shape := ⟨2, ![16, 2049]⟩
abbrev S16x2048x1 : Shape := ⟨3, ![16, 2048, 1]⟩
abbrev S16x2048x2 : Shape := ⟨3, ![16, 2048, 2]⟩

abbrev nBuf : Space → Nat
  | .hbm => 66
  | .vmem => 0
  | .smem => 0
  | _ => 0

abbrev bufTy : (tb : Table) → Fin (tcTables nBuf tb) → BufTy
  | .hbm, ⟨0, _⟩ => ⟨S2048x16x1024, .f32⟩
  | .hbm, ⟨1, _⟩ => ⟨S16, .i32⟩
  | .hbm, ⟨2, _⟩ => ⟨S2048x16x1024, .i32⟩
  | .hbm, ⟨3, _⟩ => ⟨S_, .f32⟩
  | .hbm, ⟨4, _⟩ => ⟨S_, .i32⟩
  | .hbm, ⟨5, _⟩ => ⟨S2048x16, .f32⟩
  | .hbm, ⟨6, _⟩ => ⟨S2048x16, .i32⟩
  | .hbm, ⟨7, _⟩ => ⟨S16x2048, .i32⟩
  | .hbm, ⟨8, _⟩ => ⟨S_, .i32⟩
  | .hbm, ⟨9, _⟩ => ⟨S16x1, .i32⟩
  | .hbm, ⟨10, _⟩ => ⟨S16x2047, .i32⟩
  | .hbm, ⟨11, _⟩ => ⟨S16x2048, .i32⟩
  | .hbm, ⟨12, _⟩ => ⟨S2048, .i32⟩
  | .hbm, ⟨13, _⟩ => ⟨S1x2048, .i32⟩
  | .hbm, ⟨14, _⟩ => ⟨S16x1, .i32⟩
  | .hbm, ⟨15, _⟩ => ⟨S16x2048, .i32⟩
  | .hbm, ⟨16, _⟩ => ⟨S16x2048, .i32⟩
  | .hbm, ⟨17, _⟩ => ⟨S16x2048, .i1⟩
  | .hbm, ⟨18, _⟩ => ⟨S_, .i32⟩
  | .hbm, ⟨19, _⟩ => ⟨S16x2048, .i32⟩
  | .hbm, ⟨20, _⟩ => ⟨S16x2048, .i1⟩
  | .hbm, ⟨21, _⟩ => ⟨S_, .i32⟩
  | .hbm, ⟨22, _⟩ => ⟨S16x2048, .i32⟩
  | .hbm, ⟨23, _⟩ => ⟨S16x2048, .i1⟩
  | .hbm, ⟨24, _⟩ => ⟨S16x2048, .i1⟩
  | .hbm, ⟨25, _⟩ => ⟨S16x2048, .i1⟩
  | .hbm, ⟨26, _⟩ => ⟨S16x2048, .i1⟩
  | .hbm, ⟨27, _⟩ => ⟨S16x2048, .i1⟩
  | .hbm, ⟨28, _⟩ => ⟨S16x2048, .i32⟩
  | .hbm, ⟨29, _⟩ => ⟨S_, .i32⟩
  | .hbm, ⟨30, _⟩ => ⟨S_, .i32⟩
  | .hbm, ⟨31, _⟩ => ⟨S16x2048, .i32⟩
  | .hbm, ⟨32, _⟩ => ⟨S_, .i32⟩
  | .hbm, ⟨33, _⟩ => ⟨S16x2048, .i32⟩
  | .hbm, ⟨34, _⟩ => ⟨S16x2048, .i32⟩
  | .hbm, ⟨35, _⟩ => ⟨S_, .i32⟩
  | .hbm, ⟨36, _⟩ => ⟨S_, .i32⟩
  | .hbm, ⟨37, _⟩ => ⟨S16x2048, .i32⟩
  | .hbm, ⟨38, _⟩ => ⟨S16x2048, .i32⟩
  | .hbm, ⟨39, _⟩ => ⟨S_, .i32⟩
  | .hbm, ⟨40, _⟩ => ⟨S16x2049, .i32⟩
  | .hbm, ⟨41, _⟩ => ⟨S16, .i32⟩
  | .hbm, ⟨42, _⟩ => ⟨S16x1, .i32⟩
  | .hbm, ⟨43, _⟩ => ⟨S_, .i32⟩
  | .hbm, ⟨44, _⟩ => ⟨S16x1, .i32⟩
  | .hbm, ⟨45, _⟩ => ⟨S16x1, .i1⟩
  | .hbm, ⟨46, _⟩ => ⟨S_, .i32⟩
  | .hbm, ⟨47, _⟩ => ⟨S16x1, .i32⟩
  | .hbm, ⟨48, _⟩ => ⟨S16x1, .i32⟩
  | .hbm, ⟨49, _⟩ => ⟨S16x1, .i32⟩
  | .hbm, ⟨50, _⟩ => ⟨S_, .i32⟩
  | .hbm, ⟨51, _⟩ => ⟨S16x2048, .i32⟩
  | .hbm, ⟨52, _⟩ => ⟨S16x2048, .i1⟩
  | .hbm, ⟨53, _⟩ => ⟨S_, .i32⟩
  | .hbm, ⟨54, _⟩ => ⟨S16x2048, .i32⟩
  | .hbm, ⟨55, _⟩ => ⟨S16x2048, .i32⟩
  | .hbm, ⟨56, _⟩ => ⟨S16x2048, .i32⟩
  | .hbm, ⟨57, _⟩ => ⟨S16x2048, .i32⟩
  | .hbm, ⟨58, _⟩ => ⟨S16x2048x1, .i32⟩
  | .hbm, ⟨59, _⟩ => ⟨S16x2048x1, .i32⟩
  | .hbm, ⟨60, _⟩ => ⟨S16x2048x2, .i32⟩
  | .hbm, ⟨61, _⟩ => ⟨S16x2049, .i32⟩
  | .hbm, ⟨62, _⟩ => ⟨S16x2048, .i32⟩
  | .hbm, ⟨63, _⟩ => ⟨S16x2048, .i32⟩
  | .hbm, ⟨64, _⟩ => ⟨S_, .i32⟩
  | .hbm, ⟨65, _⟩ => ⟨S16, .i32⟩
  | _, _ => ⟨S2048x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call1_call0_c : Ref sig .tc := ⟨.hbm, 29, rfl⟩
abbrev main_call1_call0_v0 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== Proof.Collapse.lean ====
/-
  What one batch row's collapse computes, as functions of the row's words, and one trip of the kernel's loop against them.

  A row is read as a function `r : ℕ → BitVec 32`, position `j`'s word at `j`; `Lw` is the row's length word. Position `j` is
  KEPT when its word is not blank (0), differs from a non-blank word before it, and `j` lies below the length (signed). The
  collapsed row holds the kept words in order from position 0 and −1 after them; its length is the number kept.
-/
module

public import proofs.«01_k».proof.Proof.Gen.KernelIdeal.Skeleton
public import Mathlib.Data.Nat.Count

@[expose] public section

noncomputable section

namespace Cert.Proof.Collapse

open Idealize.ShloMosaic Idealize.SL.Sem
open Cert.KernelIdeal Cert.KernelIdeal.Gen

/-- The word before position `j`, blank before the first. -/
def prv (r : ℕ → BitVec 32) : ℕ → BitVec 32
  | 0 => 0
  | k + 1 => r k

/-- Position `j` is kept. -/
def Keep (r : ℕ → BitVec 32) (Lw : BitVec 32) (j : ℕ) : Prop :=
  r j ≠ 0 ∧ (prv r j = 0 ∨ r j ≠ prv r j) ∧ (BitVec.ofNat 32 j).slt Lw = true

instance (r : ℕ → BitVec 32) (Lw : BitVec 32) : DecidablePred (Keep r Lw) := fun j => by unfold Keep; infer_instance

/-- How many of the first `n` positions are kept. -/
abbrev cnt (r : ℕ → BitVec 32) (Lw : BitVec 32) (n : ℕ) : ℕ := Nat.count (Keep r Lw) n

open Classical in
/-- Position `p` of the row collapsed from its first `n` positions: the word of the kept position that `p` kept positions
    come before, −1 when there is none. -/
def tok (r : ℕ → BitVec 32) (Lw : BitVec 32) (n p : ℕ) : BitVec 32 :=
  if h : ∃ j, j < n ∧ Keep r Lw j ∧ cnt r Lw j = p then r h.choose else 4294967295#32

theorem cnt_le (r : ℕ → BitVec 32) (Lw : BitVec 32) (n : ℕ) : cnt r Lw n ≤ n := Nat.count_le _

theorem tok_kept {r : ℕ → BitVec 32} {Lw : BitVec 32} {n j p : ℕ} (hj : j < n) (hk : Keep r Lw j) (hp : cnt r Lw j = p) :
    tok r Lw n p = r j := by
  have h : ∃ j, j < n ∧ Keep r Lw j ∧ cnt r Lw j = p := ⟨j, hj, hk, hp⟩
  unfold tok
  rw [dif_pos h]
  exact congrArg r (Nat.count_injective h.choose_spec.2.1 hk (h.choose_spec.2.2.trans hp.symm))

theorem tok_none {r : ℕ → BitVec 32} {Lw : BitVec 32} {n p : ℕ} (h : ∀ j, j < n → Keep r Lw j → cnt r Lw j ≠ p) :
    tok r Lw n p = 4294967295#32 := by
  unfold tok
  exact dif_neg fun ⟨j, hj, hk, hp⟩ => h j hj hk hp

/-- Past the first `n` positions the row collapsed from them holds −1. -/
theorem tok_ge {r : ℕ → BitVec 32} {Lw : BitVec 32} {n p : ℕ} (h : n ≤ p) : tok r Lw n p = 4294967295#32 :=
  tok_none fun j hj _ hp => by have := cnt_le r Lw j; omega

/-- A longer prefix none of whose new kept positions lands at `p` leaves position `p` alone. -/
theorem tok_extend {r : ℕ → BitVec 32} {Lw : BitVec 32} {n n' p : ℕ} (hn : n ≤ n')
    (h : ∀ j, n ≤ j → j < n' → Keep r Lw j → cnt r Lw j ≠ p) : tok r Lw n' p = tok r Lw n p := by
  by_cases he : ∃ j, j < n ∧ Keep r Lw j ∧ cnt r Lw j = p
  · obtain ⟨j, hj, hk, hp⟩ := he
    rw [tok_kept hj hk hp, tok_kept (hj.trans_le hn) hk hp]
  · have hno : ∀ j, j < n → Keep r Lw j → cnt r Lw j ≠ p := fun j hj hk hp => he ⟨j, hj, hk, hp⟩
    rw [tok_none hno, tok_none fun j hj hk => if hjn : j < n then hno j hjn hk else h j (Nat.le_of_not_lt hjn) hj hk]

/-! ## An indexed store, read at an element -/

/-- A fold of steps each of which, at `j`, writes `v k` when `N k` and leaves what is there when not: no step writes. -/
theorem fold_none {ι κ α : Type} (stp : (κ → α) → ι → κ → α) (N : ι → Prop) (j : κ)
    (hno : ∀ g k, ¬ N k → stp g k j = g j) (l : List ι) (f : κ → α) (h : ∀ k ∈ l, ¬ N k) : l.foldl stp f j = f j := by
  induction l generalizing f with
  | nil => rfl
  | cons k l ih =>
    rw [List.foldl_cons, ih _ fun k' hk' => h k' (List.mem_cons_of_mem _ hk'), hno _ _ (h k List.mem_cons_self)]

/-- The same fold, some step writing and every step that does writing `y`. -/
theorem fold_one {ι κ α : Type} (stp : (κ → α) → ι → κ → α) (N : ι → Prop) (j : κ) (y : α)
    (hno : ∀ g k, ¬ N k → stp g k j = g j) (hyes : ∀ g k, N k → stp g k j = y) (l : List ι) (f : κ → α) (h : ∃ k ∈ l, N k) :
    l.foldl stp f j = y := by
  induction l generalizing f with
  | nil => obtain ⟨k, hk, -⟩ := h; exact absurd hk List.not_mem_nil
  | cons k l ih =>
    rw [List.foldl_cons]
    by_cases hin : ∃ k' ∈ l, N k'
    · exact ih _ hin
    · obtain ⟨k', hk', hN⟩ := h
      rcases List.mem_cons.mp hk' with rfl | h'
      · rw [fold_none stp N j hno l _ fun q hq hNq => hin ⟨q, hq, hNq⟩, hyes _ _ hN]
      · exact absurd ⟨k', h', hN⟩ hin

section Store

variable {F : FTy → Type} [FloatOps F] {s : Shape} {e : EltTy} {d : Fin 1 → Nat}

/-- An element no set lane names keeps its value. -/
theorem storeIdx_none (f : Vec F s e) (idxs : Fin s.rank → IVec ⟨1, d⟩ 32) (v : Vec F ⟨1, d⟩ e) (mask : IVec ⟨1, d⟩ 1)
    (h : ∀ a x, (idxs a x).toNat < s.size a) (j : s.Idx)
    (hno : ∀ k, mask (Shape.ofLane k) = 1 → ¬ ∀ a, (j a).val = (idxAt idxs h (Shape.ofLane k) a).val) :
    storeIdx f idxs v mask false h j = f j := by
  unfold storeIdx
  refine fold_none _ (fun k => mask (Shape.ofLane k) = 1 ∧ ∀ a, (j a).val = (idxAt idxs h (Shape.ofLane k) a).val) j ?_ _ f
    fun k _ hk => hno k hk.1 hk.2
  intro g k hk
  dsimp only
  by_cases h1 : mask (Shape.ofLane k) = 1
  · rw [if_pos h1]; exact if_neg fun h2 => hk ⟨h1, h2⟩
  · rw [if_neg h1]

/-- An element some set lane names holds that lane's value, when every set lane naming it has the same. -/
theorem storeIdx_one (f : Vec F s e) (idxs : Fin s.rank → IVec ⟨1, d⟩ 32) (v : Vec F ⟨1, d⟩ e) (mask : IVec ⟨1, d⟩ 1)
    (h : ∀ a x, (idxs a x).toNat < s.size a) (j : s.Idx) (y : Elt F e) (k : Fin (d 0)) (hk : mask (Shape.ofLane k) = 1)
    (hj : ∀ a, (j a).val = (idxAt idxs h (Shape.ofLane k) a).val)
    (hy : ∀ k, mask (Shape.ofLane k) = 1 → (∀ a, (j a).val = (idxAt idxs h (Shape.ofLane k) a).val) → v (Shape.ofLane k) = y) :
    storeIdx f idxs v mask false h j = y := by
  unfold storeIdx
  refine fold_one _ (fun k => mask (Shape.ofLane k) = 1 ∧ ∀ a, (j a).val = (idxAt idxs h (Shape.ofLane k) a).val) j y ?_ ?_ _ f
    ⟨k, List.mem_finRange k, hk, hj⟩
  · intro g k hk
    dsimp only
    by_cases h1 : mask (Shape.ofLane k) = 1
    · rw [if_pos h1]; exact if_neg fun h2 => hk ⟨h1, h2⟩
    · rw [if_neg h1]
  · intro g k hk
    dsimp only
    rw [if_pos hk.1, if_pos hk.2]
    simpa using hy k hk.1 hk.2

end Store

/-! ## One trip's vectors -/

section Trip

variable {F : FTy → Type} [FloatOps F]
variable (r : ℕ → BitVec 32) (Lw : BitVec 32)

theorem trips_eq : k1_t1_loop.trips = 128 := by decide

theorem iv_eq (t : Fin k1_t1_loop.trips) : Scalar.muli (Scf.iv 0#32 1#32 t) 16#32 = BitVec.ofNat 32 (16 * t.val) := by
  have ht : t.val < 128 := trips_eq ▸ t.isLt
  unfold Scf.iv Scalar.muli IntOp.muli
  apply BitVec.eq_of_toNat_eq
  simp only [BitVec.toNat_mul, BitVec.toNat_add, BitVec.toNat_ofNat]
  omega

theorem ofLane_self (x : S16.Idx) : (Shape.ofLane (d := ![16]) (x 0) : S16.Idx) = x := by
  funext a; obtain rfl : a = 0 := Subsingleton.elim _ _; rfl

theorem pay4_apply (t : Fin k1_t1_loop.trips) (x : S16.Idx) : k1_pay4 t x = BitVec.ofNat 32 (16 * t.val + ((x 0).val - 1)) := by
  have ht : t.val < 128 := trips_eq ▸ t.isLt
  have hx : (x 0).val < 16 := (x 0).isLt
  unfold k1_pay4
  dsimp only
  rw [iv_eq]
  simp only [addi, subi, maxsi, broadcast, iota, List.foldl_cons, List.foldl_nil, Nat.zero_mul, Nat.zero_add]
  generalize (x 0).val = n at hx
  have : ∀ n : Fin 16, IntOp.maxsi (IntOp.subi (BitVec.ofNat 32 n.val) 1#32) 0#32 = BitVec.ofNat 32 (n.val - 1) := by decide
  rw [this ⟨n, hx⟩]
  simp only [IntOp.addi, ← BitVec.ofNat_add]

theorem pay5_iff (t : Fin k1_t1_loop.trips) (a12 v24 v29 : IVec S16 32) (v13 : IVec S16 32) (h13 : ∀ x, v13 x = Lw)
    (h12 : ∀ x, a12 x = prv r (16 * t.val)) (h24 : ∀ x : S16.Idx, v24 x = r (16 * t.val + (x 0).val))
    (h29 : ∀ x : S16.Idx, v29 x = r (16 * t.val + ((x 0).val - 1))) (x : S16.Idx) :
    k1_pay5 (F := F) v13 t a12 v24 v29 x = 1#1 ↔ Keep r Lw (16 * t.val + (x 0).val) := by
  have hx : (x 0).val < 16 := (x 0).isLt
  unfold k1_pay5
  dsimp only
  rw [iv_eq]
  simp only [andi, ori, cmpi, IntOp.andi, IntOp.ori, IntOp.cmpi, select, Scalar.select, addi, IntOp.addi, iota, List.foldl_cons, List.foldl_nil, Nat.zero_mul, Nat.zero_add, broadcast, h13, h12, h24, h29]
  have hp : (if BitVec.ofBool (BitVec.ofNat 32 (x 0).val == 0#32) = 1 then prv r (16 * t.val) else r (16 * t.val + ((x 0).val - 1)))
      = prv r (16 * t.val + (x 0).val) := by
    generalize (x 0).val = n at hx
    rcases n with _ | n
    · rfl
    · rw [if_neg]
      · rfl
      · have : ∀ n : Fin 15, ¬ BitVec.ofBool (BitVec.ofNat 32 (n.val + 1) == 0#32) = 1 := by decide
        exact this ⟨n, by omega⟩
  rw [hp, ← BitVec.ofNat_add]
  unfold Keep
  generalize r (16 * t.val + (x 0).val) = u
  generalize prv r (16 * t.val + (x 0).val) = w
  generalize BitVec.slt _ _ = b
  rw [BitVec.ofBool_or_ofBool, BitVec.ofBool_and_ofBool, BitVec.ofBool_and_ofBool]
  rw [show (1#1 : BitVec 1) = BitVec.ofBool true from rfl, BitVec.ofBool_eq_iff_eq]
  simp [and_assoc]

/-! ### The running sum -/

theorem filt_succ : ∀ j : Fin 15, (List.finRange 16).filter (fun k => decide (0 < k.val ∧ k.val ≤ j.val + 1))
    = (List.finRange 16).filter (fun k => decide (0 < k.val ∧ k.val ≤ j.val)) ++ [j.succ] := by decide

theorem scan_zero (v : IVec S16 32) (h : 0 < 16) : scan .sum v (Shape.ofLane (d := ![16]) ⟨0, h⟩) = v (Shape.ofLane (d := ![16]) ⟨0, h⟩) := by
  unfold scan
  have : (List.finRange 16).filter (fun k => decide (0 < k.val ∧ k.val ≤ 0)) = [] := by decide
  show List.foldl _ _ ((List.finRange 16).filter (fun k => decide (0 < k.val ∧ k.val ≤ 0))) = _
  rw [this]; rfl

theorem scan_succ (v : IVec S16 32) (n : ℕ) (h : n + 1 < 16) :
    scan .sum v (Shape.ofLane (d := ![16]) ⟨n + 1, h⟩)
      = scan .sum v (Shape.ofLane (d := ![16]) ⟨n, Nat.lt_of_succ_lt h⟩) + v (Shape.ofLane (d := ![16]) ⟨n + 1, h⟩) := by
  unfold scan
  show List.foldl _ _ ((List.finRange 16).filter (fun k => decide (0 < k.val ∧ k.val ≤ n + 1)))
    = List.foldl _ _ ((List.finRange 16).filter (fun k => decide (0 < k.val ∧ k.val ≤ n))) + _
  rw [filt_succ ⟨n, by omega⟩]
  exact List.foldl_append

theorem scan_count (v : IVec S16 32) (a : ℕ) (hv : ∀ x : S16.Idx, v x = BitVec.ofNat 32 (if Keep r Lw (a + (x 0).val) then 1 else 0)) (n : ℕ)
    (h : n < 16) : scan .sum v (Shape.ofLane (d := ![16]) ⟨n, h⟩) = BitVec.ofNat 32 (cnt r Lw (a + n + 1) - cnt r Lw a) := by
  induction n with
  | zero =>
    rw [scan_zero, hv]
    congr 1
    show (if Keep r Lw (a + 0) then 1 else 0) = _
    unfold cnt
    rw [Nat.add_zero, Nat.count_succ]
    omega
  | succ n ih =>
    rw [scan_succ, ih (Nat.lt_of_succ_lt h), hv, ← BitVec.ofNat_add]
    congr 1
    show _ + (if Keep r Lw (a + (n + 1)) then 1 else 0) = _
    have hm : cnt r Lw a ≤ cnt r Lw (a + n + 1) := Nat.count_monotone _ (by omega)
    unfold cnt at hm ⊢
    rw [show a + (n + 1) + 1 = (a + n + 1) + 1 by omega, Nat.count_succ _ (a + n + 1), show a + (n + 1) = a + n + 1 by omega]
    omega

section Vals

variable (t : Fin k1_t1_loop.trips) (a11 a12 v24 v29 : IVec S16 32) (v13 : IVec S16 32) (h13 : ∀ x, v13 x = Lw)
  (h11 : ∀ x, a11 x = BitVec.ofNat 32 (cnt r Lw (16 * t.val)))
  (h12 : ∀ x, a12 x = prv r (16 * t.val)) (h24 : ∀ x : S16.Idx, v24 x = r (16 * t.val + (x 0).val))
  (h29 : ∀ x : S16.Idx, v29 x = r (16 * t.val + ((x 0).val - 1)))
include h13 h12 h24 h29

theorem pay6_apply (x : S16.Idx) :
    k1_pay6 (F := F) v13 t a12 v24 v29 x = BitVec.ofNat 32 (cnt r Lw (16 * t.val + (x 0).val + 1) - cnt r Lw (16 * t.val)) := by
  unfold k1_pay6
  dsimp only
  conv_lhs => rw [← ofLane_self x]
  refine scan_count r Lw _ _ (fun y => ?_) _ (x 0).isLt
  have h := pay5_iff (F := F) r Lw t a12 v24 v29 v13 h13 h12 h24 h29 y
  unfold extui
  by_cases hk : Keep r Lw (16 * t.val + (y 0).val)
  · rw [h.mpr hk, if_pos hk]; rfl
  · rw [if_neg hk]
    have h0 : k1_pay5 (F := F) v13 t a12 v24 v29 y = 0#1 := by
      have := mt h.mp hk
      generalize k1_pay5 (F := F) v13 t a12 v24 v29 y = b at this
      revert b; decide
    rw [h0]; rfl

include h11 in
theorem pay7_apply (x : S16.Idx) :
    k1_pay7 (F := F) v13 t a11 a12 v24 v29 x
      = if Keep r Lw (16 * t.val + (x 0).val) then BitVec.ofNat 32 (cnt r Lw (16 * t.val + (x 0).val)) else 0#32 := by
  have h := pay5_iff (F := F) r Lw t a12 v24 v29 v13 h13 h12 h24 h29 x
  unfold k1_pay7
  dsimp only
  simp only [select, Scalar.select, subi, IntOp.subi, addi, IntOp.addi, broadcast, h11,
    pay6_apply r Lw t a12 v24 v29 v13 h13 h12 h24 h29]
  by_cases hk : Keep r Lw (16 * t.val + (x 0).val)
  · rw [if_pos (show k1_pay5 (F := F) v13 t a12 v24 v29 x = 1 from h.mpr hk), if_pos hk]
    have hm : cnt r Lw (16 * t.val) ≤ cnt r Lw (16 * t.val + (x 0).val) := Nat.count_monotone _ (by omega)
    have hs : cnt r Lw (16 * t.val + (x 0).val + 1) = cnt r Lw (16 * t.val + (x 0).val) + 1 := by
      unfold cnt; rw [Nat.count_succ, if_pos hk]
    rw [← BitVec.ofNat_add, hs, show cnt r Lw (16 * t.val) + (cnt r Lw (16 * t.val + (x 0).val) + 1 - cnt r Lw (16 * t.val))
      = cnt r Lw (16 * t.val + (x 0).val) + 1 by omega, BitVec.ofNat_add, BitVec.add_sub_cancel]
  · rw [if_neg (show ¬ k1_pay5 (F := F) v13 t a12 v24 v29 x = 1 from fun e => hk (h.mp e)), if_neg hk]

include h11 in
theorem pay8_apply (x : S16.Idx) : k1_pay8 (F := F) v13 t a11 a12 v24 v29 x = BitVec.ofNat 32 (cnt r Lw (16 * (t.val + 1))) := by
  unfold k1_pay8
  simp only [addi, IntOp.addi, broadcast, h11]
  unfold extractAt extractStridedSlice
  rw [pay6_apply r Lw t a12 v24 v29 v13 h13 h12 h24 h29, ← BitVec.ofNat_add]
  congr 1
  have hm : cnt r Lw (16 * t.val) ≤ cnt r Lw (16 * t.val + 15 + 1) := Nat.count_monotone _ (by omega)
  show cnt r Lw (16 * t.val) + (cnt r Lw (16 * t.val + 15 + 1) - cnt r Lw (16 * t.val)) = _
  rw [show 16 * (t.val + 1) = 16 * t.val + 15 + 1 by omega]
  omega

omit h13 h12 h29 in
theorem pay9_apply (x : S16.Idx) : k1_pay9 (F := F) v24 x = prv r (16 * (t.val + 1)) := by
  unfold k1_pay9
  unfold broadcast extractAt extractStridedSlice
  rw [h24]
  rfl

include h11 in
theorem pay7_lt (x : S16.Idx) : (k1_pay7 (F := F) v13 t a11 a12 v24 v29 x).toNat < 2048 := by
  have ht : t.val < 128 := trips_eq ▸ t.isLt
  have hx : (x 0).val < 16 := (x 0).isLt
  rw [pay7_apply r Lw t a11 a12 v24 v29 v13 h13 h11 h12 h24 h29]
  have := cnt_le r Lw (16 * t.val + (x 0).val)
  split
  · rw [BitVec.toNat_ofNat]; exact lt_of_le_of_lt (Nat.mod_le _ _) (by omega)
  · decide

include h11 in
/-- The trip's scatter: over a row whose first `16 t` positions hold the collapse of the first `16 t` and the next sixteen −1, it
    leaves the collapse of the first `16 (t + 1)` in the first `16 (t + 1)`. -/
theorem store_tok (g : Vec F S2048 .i32)
    (h : ∀ a x, ((![k1_pay7 (F := F) v13 t a11 a12 v24 v29] : Fin 1 → IVec S16 32) a x).toNat < S2048.size a)
    (hg : ∀ y : S2048.Idx, (y 0).val < 16 * (t.val + 1) → g y = if (y 0).val < 16 * t.val then tok r Lw (16 * t.val) (y 0).val else 4294967295#32)
    (y : S2048.Idx) (hy : (y 0).val < 16 * (t.val + 1)) :
    storeIdx g ![k1_pay7 (F := F) v13 t a11 a12 v24 v29] v24 (k1_pay5 (F := F) v13 t a12 v24 v29) false h y
      = tok r Lw (16 * (t.val + 1)) (y 0).val := by
  have ht : t.val < 128 := trips_eq ▸ t.isLt
  have h5 := pay5_iff (F := F) r Lw t a12 v24 v29 v13 h13 h12 h24 h29
  have h7 := pay7_apply (F := F) r Lw t a11 a12 v24 v29 v13 h13 h11 h12 h24 h29
  -- where a kept lane's word goes
  have hat : ∀ k : Fin 16, Keep r Lw (16 * t.val + k.val) → ∀ a,
      (idxAt (s := S2048) ![k1_pay7 (F := F) v13 t a11 a12 v24 v29] h (Shape.ofLane (d := ![16]) k) a).val = cnt r Lw (16 * t.val + k.val) := by
    intro k hk a
    obtain rfl : a = 0 := Subsingleton.elim _ _
    show (k1_pay7 (F := F) v13 t a11 a12 v24 v29 (Shape.ofLane (d := ![16]) k)).toNat = _
    rw [h7]
    have := cnt_le r Lw (16 * t.val + k.val)
    have hk16 := k.isLt
    rw [if_pos (show Keep r Lw (16 * t.val + ((Shape.ofLane (d := ![16]) k : S16.Idx) 0).val) from hk), BitVec.toNat_ofNat]
    exact Nat.mod_eq_of_lt (by show cnt r Lw (16 * t.val + k.val) < _; omega)
  by_cases hex : ∃ j, 16 * t.val ≤ j ∧ j < 16 * (t.val + 1) ∧ Keep r Lw j ∧ cnt r Lw j = (y 0).val
  · obtain ⟨j, hj1, hj2, hk, hc⟩ := hex
    obtain ⟨k, rfl⟩ : ∃ k : Fin 16, j = 16 * t.val + k.val := ⟨⟨j - 16 * t.val, by omega⟩, by show j = 16 * t.val + (j - 16 * t.val); omega⟩
    rw [tok_kept hj2 hk hc]
    refine storeIdx_one g _ v24 _ h y _ k ((h5 _).mpr hk) (fun a => ?_) fun k' hm' hj' => ?_
    · obtain rfl : a = 0 := Subsingleton.elim _ _
      rw [hat k hk 0, hc]
    · have hk' := (h5 _).mp hm'
      have e1 : (y 0).val = cnt r Lw (16 * t.val + k'.val) := (hj' 0).trans (hat k' hk' 0)
      rw [h24]
      exact congrArg r (Nat.count_injective hk' hk (e1.symm.trans hc.symm))
  · have hno : ∀ j, 16 * t.val ≤ j → j < 16 * (t.val + 1) → Keep r Lw j → cnt r Lw j ≠ (y 0).val :=
      fun j h1 h2 h3 h4 => hex ⟨j, h1, h2, h3, h4⟩
    rw [tok_extend (by omega) hno]
    refine (storeIdx_none g _ v24 _ h y fun k hm hj => ?_).trans ?_
    · have hk := (h5 _).mp hm
      have hk16 : k.val < 16 := k.isLt
      exact hno _ (Nat.le_add_right _ _) (by show 16 * t.val + k.val < _; omega) hk ((hj 0).trans (hat k hk 0)).symm
    · rw [hg y hy]
      split
      · rfl
      · exact (tok_ge (by omega)).symm

end Vals

end Trip

end Cert.Proof.Collapse

end
-- ==== Proof.Setup.lean ====
/-
  The launch as its theorem reads it, and the pieces of memory the one SparseCore call deals.

  The call's grid is two SparseCores by sixteen vector subcores; the task at core `c`, subcore `s` has number `2 s + c`, and the
  sixteen tasks numbered below 16 each own one batch row: that row of the aligned labels, of the token result and of the length
  result, and a part of the lengths argument to read. The other tasks own nothing.
-/
module

public import proofs.«01_k».proof.Defs
public import proofs.«01_k».proof.Proof.Collapse
public import Idealize.ShloMosaic.Lib.SparseCore.Quiescent
public import Idealize.ShloMosaic.Lib.StableHlo.Run
public import Idealize.ShloMosaic.Lib.Pipeline.Kit
public import Idealize.ShloMosaic.Lib.Ring.Tabled
public import Idealize.ShloMosaic.Lib.Tactic
public import Idealize.ShloMosaic.Lib.ValueIdxCore
public import Idealize.ShloMosaic.Lib.WritesUnit
public import proofs.«01_k».proof.Proof.Gen.KernelIdeal
public import proofs.«01_k».proof.Proof.Gen.KernelIdeal.Skeleton

@[expose] public section

noncomputable section

namespace Cert.Proof.Collapse

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type}

/-! ## The program's configuration -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staged copies' rounds, the subcores' own copies' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The staged copies' component: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The buffers -/

abbrev mlLoc (d : Dev nD) : Loc nD τ sig := (SparseCore.T d).loc main_v0
abbrev lensLoc (d : Dev nD) : Loc nD τ sig := (SparseCore.T d).loc main_arg1
abbrev tokLoc (d : Dev nD) : Loc nD τ sig := (SparseCore.T d).loc main_v1_0
abbrev lenLoc (d : Dev nD) : Loc nD τ sig := (SparseCore.T d).loc main_v1_1

local notation "mlV" => (Memref.whole Cert.KernelIdeal.main_v0_scv : Memref Cert.KernelIdeal.sig Kind.scVector Space.hbm Cert.KernelIdeal.S16x2048 EltTy.i32)
local notation "lensV" => (Memref.whole Cert.KernelIdeal.main_arg1_scv : Memref Cert.KernelIdeal.sig Kind.scVector Space.hbm Cert.KernelIdeal.S16 EltTy.i32)
local notation "tokV" => (Memref.whole Cert.KernelIdeal.main_v1_0_scv : Memref Cert.KernelIdeal.sig Kind.scVector Space.hbm Cert.KernelIdeal.S16x2048 EltTy.i32)
local notation "lenV" => (Memref.whole Cert.KernelIdeal.main_v1_1_scv : Memref Cert.KernelIdeal.sig Kind.scVector Space.hbm Cert.KernelIdeal.S16x16 EltTy.i32)

theorem hdiv : 16 ∣ S16x2048.size 0 := ⟨1, rfl⟩
/-- Row `b` of the (16, 2048) arrays. -/
abbrev row (b : Fin 16) : Rect S16x2048 := Rect.part (s := S16x2048) (a₀ := 0) hdiv b
abbrev rowSet (b : Fin 16) : Finset S16x2048.Idx := ((mlV).view.slice (row b)).set
theorem hdiv2 : 16 ∣ S16x16.size 0 := ⟨1, rfl⟩
/-- Row `b` of the (16, 16) array. -/
abbrev row2 (b : Fin 16) : Rect S16x16 := Rect.part (s := S16x16) (a₀ := 0) hdiv2 b
abbrev rowSet2 (b : Fin 16) : Finset S16x16.Idx := ((lenV).view.slice (row2 b)).set

/-- The part of the lengths argument row `b`'s task reads. -/
abbrev qL (b : Fin 16) : PosShare TreeShare := Ring.sharesN 16 fullShare b

/-! ## What a row's task leaves -/

/-- Row `b` of a (16, 2048) array of words, as a function of the position, blank past the end. -/
def rowOf (f : S16x2048.Idx → BitVec 32) (b : Fin 16) : ℕ → BitVec 32 := fun j =>
  if h : j < 2048 then f (ix2 b ⟨j, h⟩) else 0

/-- The length word of row `b`. -/
def lenOf (f : S16.Idx → BitVec 32) (b : Fin 16) : BitVec 32 := f (ix1 b)

/-- The collapsed rows: every row's kept words in order, −1 after them. -/
def tokOut (f : S16x2048.Idx → BitVec 32) (g : S16.Idx → BitVec 32) : S16x2048.Idx → BitVec 32 :=
  fun y => tok (rowOf f (y 0)) (lenOf g (y 0)) 2048 (y 1).val
/-- The number kept of every row, in every lane. -/
def lenOut (f : S16x2048.Idx → BitVec 32) (g : S16.Idx → BitVec 32) : S16x16.Idx → BitVec 32 :=
  fun y => BitVec.ofNat 32 (cnt (rowOf f (y 0)) (lenOf g (y 0)) 2048)

/-! ## What the call's tasks are dealt -/

variable (ml : (d : Dev nD) → Buf (Elt F) (mlLoc d)) (m : (ℓ : Loc nD τ sig) → Buf (Elt F) ℓ) (ρ : Dev nD → PrngReg)

abbrev tokFin (d : Dev nD) : Buf (Elt F) (tokLoc d) := tokOut (ml d) (m (lensLoc d))
abbrev lenFin (d : Dev nD) : Buf (Elt F) (lenLoc d) := lenOut (ml d) (m (lensLoc d))

/-- Row `b` at the call. -/
abbrev rowIn (d : Dev nD) (b : Fin 16) : sProp 𝕄 :=
  iprop((mlLoc d ↦[rowSet b]{fullShare} ml d) ∗ (lensLoc d ↦{qL b} m (lensLoc d))
    ∗ (tokLoc d ↦[rowSet b]{fullShare} m (tokLoc d)) ∗ (lenLoc d ↦[rowSet2 b]{fullShare} m (lenLoc d)))
/-- Row `b` back. -/
abbrev rowBack (d : Dev nD) (b : Fin 16) : sProp 𝕄 :=
  iprop((mlLoc d ↦[rowSet b]{fullShare} ml d) ∗ (lensLoc d ↦{qL b} m (lensLoc d))
    ∗ (tokLoc d ↦[rowSet b]{fullShare} tokFin ml m d) ∗ (lenLoc d ↦[rowSet2 b]{fullShare} lenFin ml m d))

/-- What the task of number `n` has of a family over the rows: its row's, if it has one. -/
def ofRow (Φ : Fin 16 → sProp 𝕄) (n : ℕ) : sProp 𝕄 := if h : n < 16 then Φ ⟨n, h⟩ else iprop(emp)

theorem ofRow_pos {Φ : Fin 16 → sProp 𝕄} {n : ℕ} (h : n < 16) : ofRow Φ n = Φ ⟨n, h⟩ := dif_pos h
theorem ofRow_neg {Φ : Fin 16 → sProp 𝕄} {n : ℕ} (h : ¬ n < 16) : ofRow Φ n = iprop(emp) := dif_neg h

instance ofRow_storable (Φ : Fin 16 → sProp 𝕄) [h : ∀ b, BI.Storable (upEmb : UEmb _ 𝕄) (Φ b)] (n : ℕ) :
    BI.Storable (upEmb : UEmb _ 𝕄) (ofRow Φ n) := by
  unfold ofRow; split
  · exact h _
  · infer_instance

/-- The call hands each SparseCore its tasks' rows, and each task its own. -/
def P : (K (F := F)).Pay (nD := nD) (Val := Elt F) (Name := ℕ) (U := UU) where
  st := fun _ d c => bigSep Finset.univ fun i : Fin 16 => ofRow (rowIn ml m d) (2 * i.val + c.val)
  dn := fun _ d c => bigSep Finset.univ fun i : Fin 16 => ofRow (rowBack ml m d) (2 * i.val + c.val)
  go := fun _ d c i => ofRow (rowIn ml m d) (2 * i.val + c.val)
  td := fun _ d c i => ofRow (rowBack ml m d) (2 * i.val + c.val)
  x := fun _ _ => iprop(emp)

instance P_storable : (P (F := F) ml m).IsStorable where
  st _ d c := (inferInstance : BI.Storable (upEmb : UEmb _ 𝕄) (bigSep Finset.univ fun i : Fin 16 => ofRow (rowIn ml m d) (2 * i.val + c.val)))
  dn _ d c := (inferInstance : BI.Storable (upEmb : UEmb _ 𝕄) (bigSep Finset.univ fun i : Fin 16 => ofRow (rowBack ml m d) (2 * i.val + c.val)))
  go _ d c i := (inferInstance : BI.Storable (upEmb : UEmb _ 𝕄) (ofRow (rowIn ml m d) (2 * i.val + c.val)))
  td _ d c i := (inferInstance : BI.Storable (upEmb : UEmb _ 𝕄) (ofRow (rowBack ml m d) (2 * i.val + c.val)))

theorem vecSplit : (K (F := F)).VecSplit' (P ml m) 0 := by
  intro d c
  show (bigSep Finset.univ fun i : Fin 16 => ofRow (rowIn ml m d) (2 * i.val + c.val)) ⊢ |={Set.univ}=> iprop(
      (bigSep Finset.univ fun i : Fin 16 => ofRow (rowIn ml m d) (2 * i.val + c.val))
      ∗ ((bigSep Finset.univ fun i : Fin 16 => ofRow (rowBack ml m d) (2 * i.val + c.val))
          -∗ bigSep Finset.univ fun i : Fin 16 => ofRow (rowBack ml m d) (2 * i.val + c.val)))
  iintro H; imodintro; isplitl [H]
  · iexact H
  · iintro H'; iexact H'

/-! ## The rows of the arrays -/

theorem rowSet_eq (b : Fin 16) : rowSet b = (row b).set := by
  show ((View.whole (main_v0_scv : Ref sig .scVector)).slice (row b)).set = _
  rw [View.set_slice]; exact Finset.map_refl
theorem rowSet2_eq (b : Fin 16) : rowSet2 b = (row2 b).set := by
  show ((View.whole (main_v1_1_scv : Ref sig .scVector)).slice (row2 b)).set = _
  rw [View.set_slice]; exact Finset.map_refl
theorem rows_disjoint : ∀ i ∈ (Finset.univ : Finset (Fin 16)), ∀ j ∈ (Finset.univ : Finset (Fin 16)), i ≠ j → Disjoint (rowSet i) (rowSet j) :=
  fun i _ j _ h => by rw [rowSet_eq, rowSet_eq]; exact Rect.part_disjoint hdiv h
theorem rows2_disjoint : ∀ i ∈ (Finset.univ : Finset (Fin 16)), ∀ j ∈ (Finset.univ : Finset (Fin 16)), i ≠ j → Disjoint (rowSet2 i) (rowSet2 j) :=
  fun i _ j _ h => by rw [rowSet2_eq, rowSet2_eq]; exact Rect.part_disjoint hdiv2 h
theorem rows_cover : (Finset.univ : Finset (Fin 16)).biUnion rowSet = Finset.univ :=
  (Finset.biUnion_congr rfl fun b _ => rowSet_eq b).trans (Rect.biUnion_part hdiv)
theorem rows2_cover : (Finset.univ : Finset (Fin 16)).biUnion rowSet2 = Finset.univ :=
  (Finset.biUnion_congr rfl fun b _ => rowSet2_eq b).trans (Rect.biUnion_part hdiv2)

theorem ml_rows (d : Dev nD) (f : Buf (Elt F) (mlLoc d)) :
    (mlLoc d ↦{fullShare} f : sProp 𝕄) = bigSep Finset.univ fun b : Fin 16 => mlLoc d ↦[rowSet b]{fullShare} f := by
  rw [← pointsTo_biUnion Finset.univ (ℓ := mlLoc d) rowSet rows_disjoint, rows_cover]; try rfl
theorem tok_rows (d : Dev nD) (f : Buf (Elt F) (tokLoc d)) :
    (tokLoc d ↦{fullShare} f : sProp 𝕄) = bigSep Finset.univ fun b : Fin 16 => tokLoc d ↦[rowSet b]{fullShare} f := by
  rw [← pointsTo_biUnion Finset.univ (ℓ := tokLoc d) rowSet rows_disjoint, rows_cover]; try rfl
theorem len_rows (d : Dev nD) (f : Buf (Elt F) (lenLoc d)) :
    (lenLoc d ↦{fullShare} f : sProp 𝕄) = bigSep Finset.univ fun b : Fin 16 => lenLoc d ↦[rowSet2 b]{fullShare} f := by
  rw [← pointsTo_biUnion Finset.univ (ℓ := lenLoc d) rowSet2 rows2_disjoint, rows2_cover]; try rfl
theorem lens_rows (d : Dev nD) (f : Buf (Elt F) (lensLoc d)) :
    (lensLoc d ↦{fullShare} f : sProp 𝕄) = bigSep Finset.univ fun b : Fin 16 => lensLoc d ↦{qL b} f := by
  rw [BI.Entails.antisymm (Ring.pointsTo_nths f 15 fullShare).1 (Ring.pointsTo_nths f 15 fullShare).2]
  exact (bigSep_eq_bigSepL_of_eq _ (by decide) (List.nodup_finRange _) _).symm

theorem rowIn_eq (d : Dev nD) :
    (bigSep Finset.univ (rowIn ml m d) : sProp 𝕄)
      = iprop((mlLoc d ↦{fullShare} ml d) ∗ (lensLoc d ↦{fullShare} m (lensLoc d)) ∗ (tokLoc d ↦{fullShare} m (tokLoc d)) ∗ (lenLoc d ↦{fullShare} m (lenLoc d))) := by
  unfold rowIn
  rw [bigSep_sep', bigSep_sep', bigSep_sep', ← ml_rows, ← lens_rows, ← tok_rows, ← len_rows]
theorem rowBack_eq (d : Dev nD) :
    (bigSep Finset.univ (rowBack ml m d) : sProp 𝕄)
      = iprop((mlLoc d ↦{fullShare} ml d) ∗ (lensLoc d ↦{fullShare} m (lensLoc d)) ∗ (tokLoc d ↦{fullShare} tokFin ml m d) ∗ (lenLoc d ↦{fullShare} lenFin ml m d)) := by
  unfold rowBack
  rw [bigSep_sep', bigSep_sep', bigSep_sep', ← ml_rows, ← lens_rows, ← tok_rows, ← len_rows]

/-- The two SparseCores' tasks have every row once. -/
theorem ofRow_cores (Φ : Fin 16 → sProp 𝕄) :
    (bigSep Finset.univ fun c : Fin 2 => bigSep Finset.univ fun i : Fin 16 => ofRow Φ (2 * i.val + c.val)) = bigSep Finset.univ Φ := by
  rw [bigSep_univ_comm, ← BI.bigSep_univ_prod (fun p : Fin 16 × Fin 2 => ofRow Φ (2 * p.1.val + p.2.val))]
  rw [show (fun p : Fin 16 × Fin 2 => ofRow Φ (2 * p.1.val + p.2.val)) = fun p => ofRow Φ (finProdFinEquiv p).val from
    funext fun p => congrArg (ofRow Φ) (Nat.add_comm _ _)]
  rw [← bigSep_univ_equiv (finProdFinEquiv : Fin 16 × Fin 2 ≃ Fin 32) (fun k : Fin 32 => ofRow Φ k.val),
    bigSep_univ_equiv (finSumFinEquiv : Fin 16 ⊕ Fin 16 ≃ Fin 32) (fun k : Fin 32 => ofRow Φ k.val), bigSep_univ_sum,
    show (bigSep Finset.univ fun i : Fin 16 => ofRow Φ (finSumFinEquiv (Sum.inr i : Fin 16 ⊕ Fin 16) : Fin 32).val) = iprop(emp) from
      (bigSep_congr fun i _ => ofRow_neg (Nat.not_lt.mpr (Nat.le_add_right 16 i.val))).trans (bigSep_emp_const _)]
  refine (equiv_iff.mp BI.sep_emp).trans ?_
  exact bigSep_congr fun i _ => ofRow_pos i.isLt

end Cert.Proof.Collapse

end
-- ==== Proof.Tile.lean ====
/-
  One task of the SparseCore call: the row's labels and the lengths in, 128 chunks of sixteen positions collapsed, the row of
  tokens and the row of lengths out.
-/
module

public import proofs.«01_k».proof.Proof.Setup

@[expose] public section

set_option maxRecDepth 16384

noncomputable section

namespace Cert.Proof.Collapse

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 eq_ix1 eq_ix2)

variable {F : FTy → Type} [FloatOps F]

local notation "𝕄" => MT nD τ sig (HIx 1) (Elt F) ℕ UU ℕ

local notation "mlV" => (Memref.whole Cert.KernelIdeal.main_v0_scv : Memref Cert.KernelIdeal.sig Kind.scVector Space.hbm Cert.KernelIdeal.S16x2048 EltTy.i32)
local notation "lensV" => (Memref.whole Cert.KernelIdeal.main_arg1_scv : Memref Cert.KernelIdeal.sig Kind.scVector Space.hbm Cert.KernelIdeal.S16 EltTy.i32)
local notation "tokV" => (Memref.whole Cert.KernelIdeal.main_v1_0_scv : Memref Cert.KernelIdeal.sig Kind.scVector Space.hbm Cert.KernelIdeal.S16x2048 EltTy.i32)
local notation "lenV" => (Memref.whole Cert.KernelIdeal.main_v1_1_scv : Memref Cert.KernelIdeal.sig Kind.scVector Space.hbm Cert.KernelIdeal.S16x16 EltTy.i32)
local notation "sA" => (Memref.whole Cert.KernelIdeal.cc1_scratch0 : Memref Cert.KernelIdeal.sig Kind.scVector Space.vmem Cert.KernelIdeal.S2048 EltTy.i32)
local notation "sB" => (Memref.whole Cert.KernelIdeal.cc1_scratch1 : Memref Cert.KernelIdeal.sig Kind.scVector Space.vmem Cert.KernelIdeal.S2048 EltTy.i32)
local notation "sC" => (Memref.whole Cert.KernelIdeal.cc1_scratch2 : Memref Cert.KernelIdeal.sig Kind.scVector Space.vmem Cert.KernelIdeal.S16 EltTy.i32)
local notation "sD" => (Memref.whole Cert.KernelIdeal.cc1_scratch3 : Memref Cert.KernelIdeal.sig Kind.scVector Space.vmem Cert.KernelIdeal.S16 EltTy.i32)

variable (ml : (d : Dev nD) → Buf (Elt F) (mlLoc d)) (m : (ℓ : Loc nD τ sig) → Buf (Elt F) ℓ)
variable (d : Dev nD) (L : grid1.Coords)

abbrev cV (L : grid1.Coords) : Fin τ.nSC := (L 0).castLE hcore1
abbrev jV (L : grid1.Coords) : Fin τ.nSub := (L 1).castLE hsub1
/-- The task's number. -/
abbrev num (L : grid1.Coords) : ℕ := 2 * (L 1).val + (L 0).val

/-- The body's branch is taken by the tasks numbered below 16. -/
theorem active_iff : k1_cond1 L = 1#1 ↔ num L < 16 := by
  have h0 : (L 0).val < 2 := (L 0).isLt
  have h1 : (L 1).val < 16 := (L 1).isLt
  have key : ∀ (a : Fin 2) (b : Fin 16), k1_cond1 (fun i => match i with | 0 => a | 1 => b) = 1#1 ↔ 2 * b.val + a.val < 16 := by decide
  have hL : L = fun i => match i with | 0 => (L 0 : Fin 2) | 1 => (L 1 : Fin 16) := by
    funext i; match i with | 0 => rfl | 1 => rfl
  rw [hL]; exact key _ _

section Active

variable (hk : k1_cond1 L = 1#1) (hn : num L < 16)

/-- The task's row. -/
abbrev bL (L : grid1.Coords) (hn : num L < 16) : Fin 16 := ⟨num L, hn⟩

abbrev rowK1 : Rect S16x2048 := Rect.unit (s := S16x2048) (k1_off1 L) S1x2048.size (k1_off1_inb L hk)
abbrev rowK3 : Rect S16x2048 := Rect.unit (s := S16x2048) (k1_off3 L) S1x2048.size (k1_off3_inb L hk)
abbrev rowK4 : Rect S16x16 := Rect.unit (s := S16x16) (k1_off4 L) S1x16.size (k1_off4_inb L hk)
abbrev mlRow : Memref sig .scVector .hbm S2048 .i32 := ((mlV).slice (rowK1 L hk) (fun _ => rfl)).squeeze S2048 squeezes_S1x2048_S2048
abbrev tokRow : Memref sig .scVector .hbm S2048 .i32 := ((tokV).slice (rowK3 L hk) (fun _ => rfl)).squeeze S2048 squeezes_S1x2048_S2048
abbrev lenRow : Memref sig .scVector .hbm S16 .i32 := ((lenV).slice (rowK4 L hk) (fun _ => rfl)).squeeze S16 squeezes_S1x16_S16

theorem rowK1_eq : rowK1 L hk = row (bL L hn) := by
  unfold rowK1 row Rect.part Rect.block
  congr 1 <;> funext a
  · rw [k1_off1_eq]
    match a with
    | 0 => simp [Shape.partIx, Shape.partSize]
    | 1 => simp [Shape.partIx, Shape.partSize]
  · match a with
    | 0 => simp [Shape.partSize]
    | 1 => simp [Shape.partSize]
theorem rowK3_eq : rowK3 L hk = row (bL L hn) := by
  unfold rowK3 row Rect.part Rect.block
  congr 1 <;> funext a
  · rw [k1_off3_eq]
    match a with
    | 0 => simp [Shape.partIx, Shape.partSize]
    | 1 => simp [Shape.partIx, Shape.partSize]
  · match a with
    | 0 => simp [Shape.partSize]
    | 1 => simp [Shape.partSize]
theorem rowK4_eq : rowK4 L hk = row2 (bL L hn) := by
  unfold rowK4 row2 Rect.part Rect.block
  congr 1 <;> funext a
  · rw [k1_off4_eq]
    match a with
    | 0 => simp [Shape.partIx, Shape.partSize]
    | 1 => simp [Shape.partIx, Shape.partSize]
  · match a with
    | 0 => simp [Shape.partSize]
    | 1 => simp [Shape.partSize]

theorem set_mlRow : (mlRow L hk).view.set = rowSet (bL L hn) := by
  show (((mlV).view.slice (rowK1 L hk)).reshape S2048 squeezes_S1x2048_S2048.numel_eq).set = ((mlV).view.slice (row (bL L hn))).set
  rw [View.set_reshape]; exact rowK1_eq L hk hn ▸ rfl
theorem set_tokRow : (tokRow L hk).view.set = rowSet (bL L hn) := by
  show (((tokV).view.slice (rowK3 L hk)).reshape S2048 squeezes_S1x2048_S2048.numel_eq).set = ((mlV).view.slice (row (bL L hn))).set
  rw [View.set_reshape]; exact rowK3_eq L hk hn ▸ rfl
theorem set_lenRow : (lenRow L hk).view.set = rowSet2 (bL L hn) := by
  show (((lenV).view.slice (rowK4 L hk)).reshape S16 squeezes_S1x16_S16.numel_eq).set = ((lenV).view.slice (row2 (bL L hn))).set
  rw [View.set_reshape]; exact rowK4_eq L hk hn ▸ rfl

theorem pts_mlRow (f : Buf (Elt F) (mlLoc d)) :
    ((mlRow L hk).view.loc (V d (cV L) (jV L)) ↦[(mlRow L hk).view.set]{fullShare} f : sProp 𝕄) = mlLoc d ↦[rowSet (bL L hn)]{fullShare} f := by
  rw [set_mlRow L hk hn]
theorem pts_tokRow (f : Buf (Elt F) (tokLoc d)) :
    ((tokRow L hk).view.loc (V d (cV L) (jV L)) ↦[(tokRow L hk).view.set]{fullShare} f : sProp 𝕄) = tokLoc d ↦[rowSet (bL L hn)]{fullShare} f := by
  rw [set_tokRow L hk hn]
theorem pts_lenRow (f : Buf (Elt F) (lenLoc d)) :
    ((lenRow L hk).view.loc (V d (cV L) (jV L)) ↦[(lenRow L hk).view.set]{fullShare} f : sProp 𝕄) = lenLoc d ↦[rowSet2 (bL L hn)]{fullShare} f := by
  rw [set_lenRow L hk hn]

/-- Where position `x` of the task's row lies in the array. -/
theorem emb_mlRow (x : S2048.Idx) : ((mlRow L hk).view.emb x : S16x2048.Idx) = ix2 (bL L hn) (x 0 : Fin 2048) := by
  show (rowK1 L hk).emb (Shape.reshapeEquiv _ x) = _
  rw [show Shape.reshapeEquiv squeezes_S1x2048_S2048.numel_eq x = (Fin.cons ⟨0, Nat.one_pos⟩ x : S1x2048.Idx) from
    Shape.reshapeEquiv_cons_one _ x]
  funext a; apply Fin.ext
  show k1_off1 L a + 1 * _ = _
  rw [k1_off1_eq]
  match a with
  | 0 => show 2 * (L 1).val + (L 0).val + 1 * 0 = num L; rfl
  | 1 => show 0 + 1 * (x 0).val = (x 0).val; rw [Nat.zero_add, Nat.one_mul]
theorem emb_tokRow (x : S2048.Idx) : ((tokRow L hk).view.emb x : S16x2048.Idx) = ix2 (bL L hn) (x 0 : Fin 2048) := by
  show (rowK3 L hk).emb (Shape.reshapeEquiv _ x) = _
  rw [show Shape.reshapeEquiv squeezes_S1x2048_S2048.numel_eq x = (Fin.cons ⟨0, Nat.one_pos⟩ x : S1x2048.Idx) from
    Shape.reshapeEquiv_cons_one _ x]
  funext a; apply Fin.ext
  show k1_off3 L a + 1 * _ = _
  rw [k1_off3_eq]
  match a with
  | 0 => show 2 * (L 1).val + (L 0).val + 1 * 0 = num L; rfl
  | 1 => show 0 + 1 * (x 0).val = (x 0).val; rw [Nat.zero_add, Nat.one_mul]
theorem emb_lenRow (x : S16.Idx) : ((lenRow L hk).view.emb x : S16x16.Idx) = ix2 (bL L hn) (x 0 : Fin 16) := by
  show (rowK4 L hk).emb (Shape.reshapeEquiv _ x) = _
  rw [show Shape.reshapeEquiv squeezes_S1x16_S16.numel_eq x = (Fin.cons ⟨0, Nat.one_pos⟩ x : S1x16.Idx) from
    Shape.reshapeEquiv_cons_one _ x]
  funext a; apply Fin.ext
  show k1_off4 L a + 1 * _ = _
  rw [k1_off4_eq]
  match a with
  | 0 => show 2 * (L 1).val + (L 0).val + 1 * 0 = num L; rfl
  | 1 => show 0 + 1 * (x 0).val = (x 0).val; rw [Nat.zero_add, Nat.one_mul]

/-- A row written with the values of a whole array's row holds that array's row. -/
theorem tokRow_written (f g : Buf (Elt F) (tokLoc d)) (w : S2048.Idx → BitVec 32)
    (hw : ∀ x : S2048.Idx, w x = g (ix2 (bL L hn) (x 0 : Fin 2048))) :
    ((tokRow L hk).view.loc (V d (cV L) (jV L)) ↦[(tokRow L hk).view.set]{fullShare} (tokRow L hk).view.write (Elt F) f w Finset.univ : sProp 𝕄)
      = tokLoc d ↦[rowSet (bL L hn)]{fullShare} g := by
  rw [← pts_tokRow d L hk hn g]
  refine pointsTo_congr fun i hi => ?_
  obtain ⟨x, -, rfl⟩ := Finset.mem_map.mp hi
  rw [View.write_emb_of_mem _ _ (Finset.mem_univ x)]
  exact (hw x).trans (congrArg g (emb_tokRow L hk hn x).symm)
theorem lenRow_written (f g : Buf (Elt F) (lenLoc d)) (w : S16.Idx → BitVec 32)
    (hw : ∀ x : S16.Idx, w x = g (ix2 (bL L hn) (x 0 : Fin 16))) :
    ((lenRow L hk).view.loc (V d (cV L) (jV L)) ↦[(lenRow L hk).view.set]{fullShare} (lenRow L hk).view.write (Elt F) f w Finset.univ : sProp 𝕄)
      = lenLoc d ↦[rowSet2 (bL L hn)]{fullShare} g := by
  rw [← pts_lenRow d L hk hn g]
  refine pointsTo_congr fun i hi => ?_
  obtain ⟨x, -, rfl⟩ := Finset.mem_map.mp hi
  rw [View.write_emb_of_mem _ _ (Finset.mem_univ x)]
  exact (hw x).trans (congrArg g (emb_lenRow L hk hn x).symm)

/-- The task's number as the body computes it. -/
theorem num_word : Scalar.addi (Scalar.muli (BitVec.ofNat 32 (L 1).val) 2#32) (BitVec.ofNat 32 (L 0).val) = BitVec.ofNat 32 (num L) := by
  apply BitVec.eq_of_toNat_eq
  have h0 : (L 0).val < 2 := (L 0).isLt
  have h1 : (L 1).val < 16 := (L 1).isLt
  simp [Scalar.addi, Scalar.muli, IntOp.addi, IntOp.muli, num]
  omega

end Active

theorem pts_lens (q : PosShare TreeShare) (f : Buf (Elt F) (lensLoc d)) :
    ((lensV).view.loc (V d (cV L) (jV L)) ↦{q} f : sProp 𝕄) = lensLoc d ↦{q} f := rfl
theorem pts_sA (f : Buf (Elt F) ((V d (cV L) (jV L)).loc cc1_scratch0)) :
    ((sA).view.loc (V d (cV L) (jV L)) ↦{fullShare} f : sProp 𝕄) = (V d (cV L) (jV L)).loc cc1_scratch0 ↦{fullShare} f := rfl
theorem pts_sB (f : Buf (Elt F) ((V d (cV L) (jV L)).loc cc1_scratch1)) :
    ((sB).view.loc (V d (cV L) (jV L)) ↦{fullShare} f : sProp 𝕄) = (V d (cV L) (jV L)).loc cc1_scratch1 ↦{fullShare} f := rfl
theorem pts_sC (f : Buf (Elt F) ((V d (cV L) (jV L)).loc cc1_scratch2)) :
    ((sC).view.loc (V d (cV L) (jV L)) ↦{fullShare} f : sProp 𝕄) = (V d (cV L) (jV L)).loc cc1_scratch2 ↦{fullShare} f := rfl
theorem pts_sD (f : Buf (Elt F) ((V d (cV L) (jV L)).loc cc1_scratch3)) :
    ((sD).view.loc (V d (cV L) (jV L)) ↦{fullShare} f : sProp 𝕄) = (V d (cV L) (jV L)).loc cc1_scratch3 ↦{fullShare} f := rfl
theorem pts_sA_acc (f : Buf (Elt F) ((V d (cV L) (jV L)).loc cc1_scratch0)) :
    (((sA).access (.whole S2048)).loc (V d (cV L) (jV L)) ↦{fullShare} f : sProp 𝕄) = (V d (cV L) (jV L)).loc cc1_scratch0 ↦{fullShare} f := rfl
theorem pts_sB_acc (f : Buf (Elt F) ((V d (cV L) (jV L)).loc cc1_scratch1)) :
    (((sB).access (.whole S2048)).loc (V d (cV L) (jV L)) ↦[((sB).access (.whole S2048)).set]{fullShare} f : sProp 𝕄)
      = (V d (cV L) (jV L)).loc cc1_scratch1 ↦{fullShare} f := by
  rw [show ((sB).access (.whole S2048)).set = Finset.univ from (Memref.set_access_whole _).trans (View.set_whole _)]
theorem pts_sC_acc (f : Buf (Elt F) ((V d (cV L) (jV L)).loc cc1_scratch2)) :
    (((sC).access (.whole S16)).loc (V d (cV L) (jV L)) ↦{fullShare} f : sProp 𝕄) = (V d (cV L) (jV L)).loc cc1_scratch2 ↦{fullShare} f := rfl

/-! ## The task's own cells and buffers -/

abbrev c0 (d : Dev nD) (c : Fin τ.nSC) (i : Fin τ.nSub) : GSem nD τ sig := (V d c i, .dma cc1_scoped0.sem)
abbrev c1 (d : Dev nD) (c : Fin τ.nSC) (i : Fin τ.nSub) : GSem nD τ sig := (V d c i, .dma cc1_scoped1.sem)
abbrev c2 (d : Dev nD) (c : Fin τ.nSC) (i : Fin τ.nSub) : GSem nD τ sig := (V d c i, .dma cc1_scoped2.sem)
abbrev c3 (d : Dev nD) (c : Fin τ.nSC) (i : Fin τ.nSub) : GSem nD τ sig := (V d c i, .dma cc1_scoped3.sem)

theorem ownSems0_V :
    (ownSems0 (V d (cV L) (jV L)) : sProp 𝕄)
      = iprop(semVal (c0 d (cV L) (jV L)) 0 ∗ semVal (c1 d (cV L) (jV L)) 0 ∗ semVal (c2 d (cV L) (jV L)) 0 ∗ semVal (c3 d (cV L) (jV L)) 0
          ∗ bigSep (((((ownCells (V d (cV L) (jV L))).erase (c0 d (cV L) (jV L))).erase (c1 d (cV L) (jV L))).erase (c2 d (cV L) (jV L))).erase
              (c3 d (cV L) (jV L))) fun g => semVal g 0) := by
  unfold SparseCore.Cfg.ownSems0
  rw [SparseCore.bigSep_erase' ((mem_ownCells (g := c0 d (cV L) (jV L))).mpr ⟨rfl, by
      show (SemLoc.dma cc1_scoped0.sem : SemLoc sig).isScoped .scVector = true; decide⟩),
    SparseCore.bigSep_erase' (Finset.mem_erase.mpr ⟨by simp [c0, c1]; decide, (mem_ownCells (g := c1 d (cV L) (jV L))).mpr ⟨rfl, by
      show (SemLoc.dma cc1_scoped1.sem : SemLoc sig).isScoped .scVector = true; decide⟩⟩),
    SparseCore.bigSep_erase' (Finset.mem_erase.mpr ⟨by simp [c1, c2]; decide, Finset.mem_erase.mpr ⟨by simp [c0, c2]; decide,
      (mem_ownCells (g := c2 d (cV L) (jV L))).mpr ⟨rfl, by show (SemLoc.dma cc1_scoped2.sem : SemLoc sig).isScoped .scVector = true; decide⟩⟩⟩),
    SparseCore.bigSep_erase' (Finset.mem_erase.mpr ⟨by simp [c2, c3]; decide, Finset.mem_erase.mpr ⟨by simp [c1, c3]; decide,
      Finset.mem_erase.mpr ⟨by simp [c0, c3]; decide, (mem_ownCells (g := c3 d (cV L) (jV L))).mpr ⟨rfl, by
        show (SemLoc.dma cc1_scoped3.sem : SemLoc sig).isScoped .scVector = true; decide⟩⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide),
      Finset.mem_erase.mpr ⟨fun e => absurd (Proc.devRef_injective _ e) (show (cc1_scratch3 : Ref sig .scVector) ≠ cc1_scratch1 by decide),
      Finset.mem_erase.mpr ⟨fun e => absurd (Proc.devRef_injective _ e) (show (cc1_scratch3 : Ref sig .scVector) ≠ cc1_scratch0 by decide),
      SparseCore.Cfg.mem_ownRefs_of_owner (p := Proc.scVector (cV L) (jV L)) (b := (Proc.scVector (cV L) (jV L)).devRef cc1_scratch3) rfl⟩⟩⟩)]

/-! ## The task -/

/-- What the task's row spells as a function of the position. -/
abbrev rOf (hn : num L < 16) : ℕ → BitVec 32 := rowOf (ml d) (bL L hn)
abbrev lwOf (hn : num L < 16) : BitVec 32 := lenOf (m (lensLoc d)) (bL L hn)

/-- The task's row of labels, as its scratch holds it. -/
def rowA (hn : num L < 16) : Buf (Elt F) ((V d (cV L) (jV L)).loc cc1_scratch0) := fun y : S2048.Idx => rOf ml d L hn (y 0).val

/-- Between chunks: the row, the collapse of its first chunks, the carried count and the carried last word. -/
def inv (hn : num L < 16) (t : Nat) (c : IVec S16 32 × IVec S16 32) : sProp 𝕄 :=
  iprop(((sA).view.loc (V d (cV L) (jV L)) ↦{fullShare} rowA ml d L hn)
    ∗ (∃ f : Buf (Elt F) ((V d (cV L) (jV L)).loc cc1_scratch1),
        ⌜∀ y : S2048.Idx, (y 0).val < 16 * t → f y = tok (rOf ml d L hn) (lwOf m d L hn) (16 * t) (y 0).val⌝
        ∗ ((sB).view.loc (V d (cV L) (jV L)) ↦{fullShare} f))
    ∗ ⌜(∀ x, c.1 x = BitVec.ofNat 32 (cnt (rOf ml d L hn) (lwOf m d L hn) (16 * t))) ∧ ∀ x, c.2 x = prv (rOf ml d L hn) (16 * t)⌝)

set_option maxHeartbeats 2000000 in
/-- One chunk. -/
theorem trip (hk : k1_cond1 L = 1#1) (hn : num L < 16) (v13 : Vec F S16 .i32) (h13 : ∀ x, v13 x = lwOf m d L hn)
    (v1 : BitVec 32) (t : Fin k1_t1_loop.trips) (c : IVec S16 32 × IVec S16 32) :
    inv ml m d L hn t.val c
      ⊢ wp frame (wpE (defs₀ (F := F)) 𝒱₀ (V d (cV L) (jV L)) none) Set.univ
          (k1_t1_body L mlV (Memref.isWhole_whole _) lensV (Memref.isWhole_whole _) tokV (Memref.isWhole_whole _) lenV (Memref.isWhole_whole _)
            sA (Memref.isWhole_whole _) sB (Memref.isWhole_whole _) sC (Memref.isWhole_whole _) sD (Memref.isWhole_whole _)
            cc1_scoped0 cc1_scoped1 cc1_scoped2 cc1_scoped3 v1 hk v13 t c)
          fun c' => inv ml m d L hn (t.val + 1) c' := by
  obtain ⟨a11, a12⟩ := c
  unfold inv k1_t1_body
  iintro ⟨Ha', ⟨%f, %hf, Hb'⟩, %hc⟩
  obtain ⟨h11, h12⟩ := hc
  sl_exec
  have ht : t.val < 128 := t.isLt.trans_eq trips_eq
  have hchk2 : k1_chk2 L (k1_pay4 t) := by
    intro _ a x
    match a with
    | 0 =>
      show (k1_pay4 t x).toNat < 2048
      have hx : (x 0).val < 16 := (x 0).isLt
      rw [pay4_apply, BitVec.toNat_ofNat]; omega
  rw [wp_assume_of _ _ _ _ hchk2]
  sl_exec
  ihave Ha2 := (Entails.of_eq ((pts_sA (F := F) d L _).trans (pts_sA_acc (F := F) d L _).symm)) $$ Ha'
  iapply (SparseCore.wp_vectorLoadIdx 𝒱₀ (V d (cV L) (jV L)) none Set.univ (base := (sA : Memref sig .scVector .vmem S2048 .i32)) (S := Finset.univ) (q := fullShare) (Finset.subset_univ _)) $$ Ha2; iintro Ha2
  have h24 : ∀ x : S16.Idx, View.readAt (Elt F) (Memref.whole cc1_scratch0).view (Rect.unit (s := S2048) (k1_off2 t) S16.size (k1_off2_inb L t hk)).toLoadRect
      (rowA ml d L hn) x = rOf ml d L hn (16 * t.val + (x 0).val) := by
    intro x
    show rowA ml d L hn ((Rect.unit (s := S2048) (k1_off2 t) S16.size (k1_off2_inb L t hk)).emb x) = _
    show rOf ml d L hn (k1_off2 t 0 + 1 * (x 0).val) = _
    rw [k1_off2_eq, Nat.one_mul]; rfl
  have h29 : ∀ x : S16.Idx, loadIdx (F := F) (e := .i32) (View.read (Elt F) ((Memref.whole cc1_scratch0).access (Rect.whole cc1_scratch0.ty.shape)) (rowA ml d L hn))
      ![k1_pay4 t] (hchk2 hk) x = rOf ml d L hn (16 * t.val + ((x 0).val - 1)) := by
    intro x
    rw [Memref.read_access_whole]
    show rOf ml d L hn (k1_pay4 t x).toNat = _
    have hx : (x 0).val < 16 := (x 0).isLt
    rw [pay4_apply, BitVec.toNat_ofNat, Nat.mod_eq_of_lt (by omega)]
  generalize hv24 : View.readAt (Elt F) (Memref.whole cc1_scratch0).view (Rect.unit (s := S2048) (k1_off2 t) S16.size (k1_off2_inb L t hk)).toLoadRect
      (rowA ml d L hn) = v24 at h24 ⊢
  generalize hv29 : loadIdx (F := F) (e := .i32) (View.read (Elt F) ((Memref.whole cc1_scratch0).access (Rect.whole cc1_scratch0.ty.shape)) (rowA ml d L hn))
      ![k1_pay4 t] (hchk2 hk) = v29 at h29 ⊢
  have hchk3 : k1_chk3 L (k1_pay7 v13 t a11 a12 v24 v29) := by
    intro _ a x
    match a with
    | 0 => exact pay7_lt (rOf ml d L hn) (lwOf m d L hn) t a11 a12 v24 v29 v13 h13 h11 h12 h24 h29 x
  sl_exec
  ihave Hb2 := (Entails.of_eq ((pts_sB (F := F) d L _).trans (pts_sB_acc (F := F) d L _).symm)) $$ Hb'
  iapply (SparseCore.wp_vectorStoreIdx 𝒱₀ (V d (cV L) (jV L)) none Set.univ (base := (sB : Memref sig .scVector .vmem S2048 .i32))) $$ Hb2; iintro Hb2
  ihave Hb3 := (Entails.of_eq ((pts_sB_acc (F := F) d L _).trans (pts_sB (F := F) d L _).symm)) $$ Hb2
  ihave Ha3 := (Entails.of_eq ((pts_sA_acc (F := F) d L _).trans (pts_sA (F := F) d L _).symm)) $$ Ha2
  sl_step
  isplitl [Ha3]; · iexact Ha3
  isplitl [Hb3]
  · iexists _; isplitr
    swap; · iexact Hb3
    ipureintro
    intro y hy
    rw [Memref.write_access_whole_univ]
    refine store_tok (rOf ml d L hn) (lwOf m d L hn) t a11 a12 v24 v29 v13 h13 h11 h12 h24 h29 _ _ ?_ y hy
    intro y hy
    rw [Memref.read_access_whole]
    by_cases hlt : (y 0).val < 16 * t.val
    · rw [if_pos hlt, ← hf y hlt]
      exact View.read_writes_cons_unit_of_not_mem (Memref.whole cc1_scratch1).view f _ _ [] y (k1_off2_eq t) 0 (Or.inl hlt)
    · rw [if_neg hlt]
      have hy16 : (y 0).val - 16 * t.val < 16 := by omega
      refine (View.read_writes_cons_unit_of_mem (Memref.whole cc1_scratch1).view f _ _ [] y (ix1 (⟨(y 0).val - 16 * t.val, hy16⟩ : Fin 16) : S16.Idx) (k1_off2_eq t) ?_).trans ?_
      · intro a
        match a with
        | 0 => show (y 0).val = 16 * t.val + ((y 0).val - 16 * t.val); omega
      · rfl
  ipureintro
  exact ⟨pay8_apply (rOf ml d L hn) (lwOf m d L hn) t a11 a12 v24 v29 v13 h13 h11 h12 h24 h29, pay9_apply (F := F) (rOf ml d L hn) t v24 h24⟩

set_option maxHeartbeats 2000000 in
theorem body_active (hF : (K (F := F)).Facts) (hk : k1_cond1 L = 1#1) (hn : num L < 16)
    (O : CellTallies nD τ sig (HIx 1)) (W : Waits sig (HIx 1)) (hO : ∀ g, O g none = 0) :
    iprop(levAts (K (F := F)).L (K (F := F)).lev ∗ emp ∗ rowIn ml m d (bL L hn)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__collapse_body L mlV (Memref.isWhole_whole _) lensV (Memref.isWhole_whole _) tokV (Memref.isWhole_whole _) lenV (Memref.isWhole_whole _)
            sA (Memref.isWhole_whole _) sB (Memref.isWhole_whole _) sC (Memref.isWhole_whole _) sD (Memref.isWhole_whole _)
            cc1_scoped0 cc1_scoped1 cc1_scoped2 cc1_scoped3)
          fun _ => iprop(rowBack ml m d (bL L hn)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1__collapse_body_eq_skeleton]; unfold cc1__collapse_body_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  unfold rowIn
  iintro ⟨#Hlv, -, ⟨Hml, Hlens, Htok, Hlen⟩, ⟨⟨%fa, Ha⟩, ⟨%fb, Hb⟩, ⟨%fc, Hc⟩, ⟨%fd, Hd⟩, Hbufs⟩, ⟨H0, H1, H2, H3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hml' := (Entails.of_eq (pts_mlRow (F := F) d L hk hn _).symm) $$ Hml
  ihave Htok' := (Entails.of_eq (pts_tokRow (F := F) d L hk hn _).symm) $$ Htok
  ihave Hlen' := (Entails.of_eq (pts_lenRow (F := F) d L hk hn _).symm) $$ Hlen
  ihave Hlens' := (Entails.of_eq (pts_lens (F := F) d L _ _).symm) $$ Hlens
  ihave Ha' := (Entails.of_eq (pts_sA (F := F) d L _).symm) $$ Ha
  ihave Hb' := (Entails.of_eq (pts_sB (F := F) d L _).symm) $$ Hb
  ihave Hc' := (Entails.of_eq (pts_sC (F := F) d L _).symm) $$ Hc
  ihave Hd' := (Entails.of_eq (pts_sD (F := F) d L _).symm) $$ Hd
  sl_exec
  -- the row and the lengths as the copies left them
  have hA : (View.write (Elt F) (Memref.whole cc1_scratch0).view fa (body_active.sl.dma0 ml d L hk) Finset.univ : Buf (Elt F) ((V d (cV L) (jV L)).loc cc1_scratch0))
      = rowA ml d L hn := by
    refine (View.write_whole_univ cc1_scratch0 fa _).trans ?_
    funext x
    show (ml d) ((mlRow L hk).view.emb x) = _
    rw [emb_mlRow L hk hn]
    unfold rowA rOf rowOf
    rw [dif_pos (show (x 0).val < 2048 from (x 0).isLt)]; rfl
  have hC : (View.write (Elt F) (Memref.whole cc1_scratch2).view fc (body_active.sl.dma0_1 m d) Finset.univ : Buf (Elt F) ((V d (cV L) (jV L)).loc cc1_scratch2))
      = m (lensLoc d) := (View.write_whole_univ cc1_scratch2 fc _).trans rfl
  have hv12 : body_active.sl.v12 L = fun _ => BitVec.ofNat 32 (num L) := by
    unfold body_active.sl.v12
    rw [num_word]; rfl
  rw [hA, hC]
  have hchk1 : k1_chk1 L (body_active.sl.v12 L) := by
    rw [hv12]; intro _ a x
    match a with
    | 0 => show (BitVec.ofNat 32 (num L)).toNat < 16; rw [BitVec.toNat_ofNat]; omega
  rw [wp_assume_of _ _ _ _ hchk1]
  sl_exec
  rw [bind_assoc]
  ihave Hc2 := (Entails.of_eq ((pts_sC (F := F) d L _).trans (pts_sC_acc (F := F) d L _).symm)) $$ Hc'
  iapply (SparseCore.wp_vectorLoadIdx 𝒱₀ (V d (cV L) (jV L)) none Set.univ (base := (sC : Memref sig .scVector .vmem S16 .i32)) (S := Finset.univ) (q := fullShare) (Finset.subset_univ _)) $$ Hc2; iintro Hc2
  have h13 : ∀ x, loadIdx (F := F) (e := .i32) (View.read (Elt F) ((Memref.whole cc1_scratch2).access (Rect.whole cc1_scratch2.ty.shape)) (m (lensLoc d)))
      ![body_active.sl.v12 L] (hchk1 hk) x = lwOf m d L hn := by
    intro x
    have hix : idxAt ![body_active.sl.v12 L] (hchk1 hk) x = (ix1 (bL L hn : Fin 16) : S16.Idx) := by
      funext a
      match a with
      | 0 =>
        refine Fin.ext ?_
        show (body_active.sl.v12 L x).toNat = num L
        rw [hv12, BitVec.toNat_ofNat]; omega
    rw [Memref.read_access_whole]
    exact congrArg (m (lensLoc d)) hix
  rw [bind_assoc]
  sl_for (inv ml m d L hn) $$ [Ha' Hb']
  case region =>
    intro t _
    exact trip ml m d L hk hn _ (fun x => h13 x) _ t _
  · unfold inv
    isplitl [Ha']; · iexact Ha'
    isplitl [Hb']
    · iexists fb; isplitr
      swap; · iexact Hb'
      ipureintro
      intro y hy
      exact absurd hy (by omega)
    ipureintro
    refine ⟨fun x => ?_, fun x => ?_⟩
    · show (0#32 : BitVec 32) = _
      rfl
    · show (0#32 : BitVec 32) = _
      rfl
  iintro %acc HI
  unfold inv
  icases HI with ⟨Ha', ⟨%f, %hf, Hb'⟩, %hcar⟩
  sl_exec
  have htr : Scf.trips k1_t1_loop.lb k1_t1_loop.ub k1_t1_loop.st = 128 := trips_eq
  rw [htr] at hf hcar
  have htok : ∀ x : S2048.Idx, body_active.sl.dma0_2 d L f x = tokFin ml m d (ix2 (bL L hn) (x 0 : Fin 2048)) := fun x => hf x (x 0).isLt
  have hlen : ∀ x : S16.Idx, body_active.sl.dma2 d L fd acc x = lenFin ml m d (ix2 (bL L hn) (x 0 : Fin 16)) := by
    intro x
    refine Eq.trans ?_ (hcar.1 x)
    unfold body_active.sl.dma2 body_active.sl.Hd'_1
    exact View.read_writes_cons_unit_of_mem (Memref.whole cc1_scratch3).view fd _ _ [] x x rfl fun a => by
      match a with
      | 0 => exact (Nat.zero_add _).symm
  sl_step
  isplitl [Hml' Hlens' Htok' Hlen']
  · unfold rowBack
    isplitl [Hml']; · iapply (Entails.of_eq (pts_mlRow (F := F) d L hk hn _)); iexact Hml'
    isplitl [Hlens']; · iapply (Entails.of_eq (pts_lens (F := F) d L _ _)); iexact Hlens'
    isplitl [Htok']
    · rw [← View.write_univ_eq_writes_whole, View.writes_nil]
      iapply (Entails.of_eq (tokRow_written (F := F) d L hk hn _ (tokFin ml m d) _ htok))
      iexact Htok'
    · rw [← View.write_univ_eq_writes_whole, View.writes_nil]
      iapply (Entails.of_eq (lenRow_written (F := F) d L hk hn _ (lenFin ml m d) _ hlen))
      iexact Hlen'
  isplitl [Ha' Hb' Hc2 Hd' Hbufs]
  · isplitl [Ha']; · iexists _; iexact Ha'
    isplitl [Hb']; · iexists _; iexact Hb'
    isplitl [Hc2]; · iexists _; iexact Hc2
    isplitl [Hd']; · iexists _; iexact Hd'
    iexact Hbufs
  isplitl [H0 H1 H2 H3 Hsems]
  · isplitl [H0]; · iexact H0
    isplitl [H1]; · iexact H1
    isplitl [H2]; · iexact H2
    isplitl [H3]; · iexact H3
    iexact Hsems
  iexists _; isplitr
  swap; · iexact HO
  ipureintro; intro p _
  rcases p.2 with _ | q
  · exact .inr (.inl rfl)
  · exact .inr (.inr (congrArg some (Subsingleton.elim q 0)))

/-- A task past the last row touches nothing. -/
theorem body_idle (hk : ¬ k1_cond1 L = 1#1) (O : CellTallies nD τ sig (HIx 1)) (W : Waits sig (HIx 1)) :
    iprop(levAts (K (F := F)).L (K (F := F)).lev ∗ emp ∗ emp
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__collapse_body L mlV (Memref.isWhole_whole _) lensV (Memref.isWhole_whole _) tokV (Memref.isWhole_whole _) lenV (Memref.isWhole_whole _)
            sA (Memref.isWhole_whole _) sB (Memref.isWhole_whole _) sC (Memref.isWhole_whole _) sD (Memref.isWhole_whole _)
            cc1_scoped0 cc1_scoped1 cc1_scoped2 cc1_scoped3)
          fun _ => iprop((emp : sProp 𝕄)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  simp only [cc1__collapse_body_eq_skeleton]; unfold cc1__collapse_body_skel
  iintro ⟨-, -, -, Hsb, Hss, HO⟩
  sl_exec
  sl_step
  isplitr; · iempintro
  isplitl [Hsb]; · iexact Hsb
  isplitl [Hss]; · iexact Hss
  iexists W; isplitr
  · ipureintro; exact fun p hp => .inl hp
  · iexact HO

/-- The task of any number. -/
theorem tile_body (hF : (K (F := F)).Facts) (O : CellTallies nD τ sig (HIx 1)) (W : Waits sig (HIx 1)) (hO : ∀ g, O g none = 0) :
    iprop(levAts (K (F := F)).L (K (F := F)).lev ∗ emp ∗ ofRow (rowIn ml m d) (num L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__collapse_body L mlV (Memref.isWhole_whole _) lensV (Memref.isWhole_whole _) tokV (Memref.isWhole_whole _) lenV (Memref.isWhole_whole _)
            sA (Memref.isWhole_whole _) sB (Memref.isWhole_whole _) sC (Memref.isWhole_whole _) sD (Memref.isWhole_whole _)
            cc1_scoped0 cc1_scoped1 cc1_scoped2 cc1_scoped3)
          fun _ => iprop(ofRow (rowBack ml m d) (num L)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  by_cases hn : num L < 16
  · rw [ofRow_pos hn, ofRow_pos hn]
    exact body_active ml m d L hF ((active_iff L).mpr hn) hn O W hO
  · rw [ofRow_neg hn, ofRow_neg hn]
    exact body_idle d L (fun hk => hn ((active_iff L).mp hk)) O W

/-! ## The call's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__collapse_body (coordsV c s)
          mlV (Memref.isWhole_whole _) lensV (Memref.isWhole_whole _) tokV (Memref.isWhole_whole _) lenV (Memref.isWhole_whole _)
          sA (Memref.isWhole_whole _) sB (Memref.isWhole_whole _) sC (Memref.isWhole_whole _) sD (Memref.isWhole_whole _)
          cc1_scoped0 cc1_scoped1 cc1_scoped2 cc1_scoped3) ⟨⟩ c s := rfl

theorem tileObl (hF : (K (F := F)).Facts) : (K (F := F)).TileObl (D (F := F)) 𝒱 (P ml m) v₀ 0 := by
  intro d c i O W hO _ _
  simp only [show (P ml m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body ml m d (coordsV ⟨_, hci.1⟩ ⟨_, hci.2⟩) hF O W hO

end Cert.Proof.Collapse

end
-- ==== Proof.Region.lean ====
/-
  The one TensorCore region: the labels' kernel, block by block.

  A block is 256 frames of all sixteen rows; the kernel reads the block's scores and writes its labels, and touches nothing else.
  While it runs the TensorCore owes the SparseCores the start of their call, so the region's proof data carry that debt along
  unchanged. The copies wait at the lowest level, where nothing is owed.
-/
module

public import proofs.«01_k».proof.Proof.Setup
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Regions
public import Idealize.ShloMosaic.Lib.Pipeline.FrameBody
public import Idealize.ShloMosaic.Lib.Ring
public import Idealize.ShloMosaic.Lib.WordCmp

@[expose] public section

set_option maxRecDepth 16384

noncomputable section

namespace Cert.Proof.Collapse

open Cert.KernelIdeal Cert.KernelIdeal.Gen

open Idealize.ShloMosaic
open Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-! ## One block -/

/-- All of a block of scores. -/
abbrev scoresR : Rect S256x16x1024 := Rect.unit (s := S256x16x1024) ![0, 0, 0] S256x16x1024.size inb_S256x16x1024_S256x16x1024_0_0_0
/-- All of a block of labels. -/
abbrev labelsR : Rect S16x256 := Rect.unit (s := S16x256) ![0, 0] S16x256.size inb_S16x256_S16x256_0_0

/-- The labels of a block of scores. -/
def labelsOf (x : Vec F S256x16x1024 .f32) : Vec F S16x256 .i32 :=
  View.canon [⟨labelsR, k0_pay1 (View.ld x scoresR)⟩]

theorem labels_cover (v : Vec F S16x256 .i32) (y : S16x256.Idx) :
    ∃ pc ∈ ([⟨labelsR, v⟩] : List (View.Piece (Elt F) S16x256 .i32)), y ∈ pc.1.set :=
  View.cover_of_tiled [⟨labelsR, v⟩] S16x256.size (by rfl) y

set_option maxHeartbeats 1000000 in
/-- The kernel on a block: the scores stay, the labels are written over whatever was there. -/
theorem block_wp (d : Dev nD) (E : Set ℕ) (i : grid0.Coords) (a : Memref sig .tc .vmem S256x16x1024 .f32) (ha : a.IsWhole)
    (b : Memref sig .tc .vmem S16x256 .i32) (hb : b.IsWhole) (x : Vec F S256x16x1024 .f32) (Q : PUnit → sProp 𝕄) :
    iprop(owns (SparseCore.T d) a fullShare x ∗ (∃ y, owns (SparseCore.T d) b fullShare y)
        ∗ (iprop(owns (SparseCore.T d) a fullShare x ∗ owns (SparseCore.T d) b fullShare (labelsOf x)) -∗ Q ⟨⟩))
      ⊢ wp frame (wpE (defs₀ (F := F)) 𝒱₀ (SparseCore.T d) none) E (cc0__argmax_block i a ha b hb) Q := by
  simp only [cc0__argmax_block_eq_skeleton]; unfold cc0__argmax_block_skel
  unfold owns
  iintro ⟨⟨%f, %hf, Ha⟩, ⟨%y, %g, -, Hb⟩, Hk⟩
  subst hf
  sl_exec
  sl_step
  iapply Hk
  isplitl [Ha]
  · iexists f; isplitr; · ipureintro; rfl
    iexact Ha
  iexists _; isplitr
  swap; · iexact Hb
  ipureintro
  exact View.read_writes_eq_canon _ _ _ (labels_cover _)

/-! ## The region's data -/

abbrev V₀ (d : Dev nD) (b : Ref sig .tc) : Buf (Elt F) ((SparseCore.T d : Thread nD τ).loc b) := m ((SparseCore.T d).loc b)

/-- Window `w`'s block at point `t` of the memory at launch. -/
def blk (d : Dev nD) (w : Fin cfg0.W) (t : Fin cfg0.N) : ((cfg0.win w).xblock (cfg0.grid.coords t)).Idx → Elt F (cfg0.win w).elt :=
  ((cfg0.win w).blk t).view.read (Elt F) (V₀ m d (Pipeline.arrRef spec0 w))

/-- The waits a TensorCore may have recorded before the call: those at the lowest level. -/
def lowWaits (d : Dev nD) : Set (SemLoc sig × HIx 1) := {p | (K (F := F)).lev (SparseCore.T d, p.1) p.2 ≤ 0}

def dat (d : Dev nD) : Dat τ (Elt F) (HIx 1) ℕ UU ℕ cfg0 d where
  A w := V₀ m d (Pipeline.arrRef spec0 w)
  after w t := match w with
    | ⟨0, _⟩ => blk m d 0 t
    | ⟨1, _⟩ => labelsOf (blk m d 0 t)
  Φ _ := Pipeline.scopedRest spec0 d
  q _ := fullShare
  owed _ := (K (F := F)).Otc d 0
  recorded _ := lowWaits (F := F) d

theorem dat_A (d : Dev nD) (w : Fin cfg0.W) : (dat m d).A w = V₀ m d (Pipeline.arrRef spec0 w) := by dsimp only [dat]
theorem dat_after0 (d : Dev nD) (t : Fin cfg0.N) : (dat m d).after 0 t = blk m d 0 t := by dsimp only [dat]
theorem dat_after1 (d : Dev nD) (t : Fin cfg0.N) : (dat m d).after 1 t = labelsOf (blk m d 0 t) := by dsimp only [dat]

/-- The scores' buffer holds the point's block when the kernel is called. -/
theorem dat_before0 (d : Dev nD) (t : Fin cfg0.N) (z) : (dat m d).before 0 t z = blk m d 0 t :=
  ((dat m d).before_in_eq_fetched 0 rfl (fun _ => rfl) (fun _ _ _ => rfl)
    (fun t => by rw [dat_after0]; unfold Dat.blockOf blk; rw [dat_A]; try rfl) t z).trans
    (by unfold Dat.fetched Dat.blockOf blk; rw [dat_A]; try rfl)

def bodyPre (d : Dev nD) (t : Fin cfg0.N) : sProp 𝕄 :=
  iprop((dat m d).Φ t.castSucc ∗ (dat m d).owesAt none t.castSucc
    ∗ (∃ z, owns (SparseCore.T d) (st0_0 t) fullShare ((dat m d).before 0 t z))
    ∗ (∃ z, owns (SparseCore.T d) (st0_1 t) fullShare ((dat m d).before 1 t z)))

def bodyPost (d : Dev nD) (t : Fin cfg0.N) : sProp 𝕄 :=
  iprop((dat m d).Φ t.succ ∗ (dat m d).owesAt none t.succ
    ∗ owns (SparseCore.T d) (st0_0 t) fullShare ((dat m d).after 0 t)
    ∗ owns (SparseCore.T d) (st0_1 t) fullShare ((dat m d).after 1 t))

theorem body_wp (d : Dev nD) (t : Fin cfg0.N) :
    bodyPre m d t ⊢ wp frame (wpE (defs₀ (F := F)) 𝒱₀ (SparseCore.T d) none) Set.univ (bodyAt0 t) (fun _ => bodyPost m d t) := by
  unfold bodyPre bodyPost bodyAt0
  simp only [dat_before0]
  rw [show (dat m d).Φ t.succ = (dat m d).Φ t.castSucc from rfl,
    show (dat m d).owesAt none t.succ = (dat m d).owesAt none t.castSucc from rfl,
    dat_after0, dat_after1]
  iintro ⟨HΦ, Ho, ⟨%z, Ha⟩, ⟨%z', Hb⟩⟩
  iapply (block_wp d Set.univ (grid0.coords t) _ _ _ _ (blk m d 0 t) _)
  isplitl [Ha]; · iexact Ha
  isplitl [Hb]; · iexists _; iexact Hb
  iintro ⟨Ha, Hb⟩
  isplitl [HΦ]; · iexact HΦ
  isplitl [Ho]; · iexact Ho
  isplitl [Ha]; · iexact Ha
  iexact Hb

theorem body_row (t : Fin cfg0.N) :
    defs₀ (F := F) .tc cfg0.body (cfg0.bodyArgs t (cfg0.slots t)) = bodyAt0 t := by
  rfl

theorem body_obligation (d : Dev nD) : BodyObligation (dat (F := F) m d) (defs₀ (F := F)) 𝒱₀ none Set.univ := fun t => by
  rw [bigSep_W0, bigSep_W0, body_row]
  exact triple_restated (body_wp m d t) rfl .rfl fun _ => .rfl

/-! ## The region -/

abbrev adm : (p : Fin 1) → (pcfgs (F := F) p).Adm := fun p => (cfgs p).toPCfg_adm

def pdats : (p : Fin 1) → (d : Dev nD) → Dat τ (Elt F) (HIx 1) ℕ UU ℕ (Pipeline.pin (pcfgs (F := F)) adm p) d
  | ⟨0, _⟩ => fun d => dat m d

/-- The labels the region leaves. -/
def labels (d : Dev nD) : Buf (Elt F) (mlLoc d) := (dat m d).arrAt 1 cfg0.N

/-- The TensorCore's buffers after the region: the labels written. -/
def V₁ (d : Dev nD) : (b : Ref sig .tc) → Buf (Elt F) ((SparseCore.T d : Thread nD τ).loc b) := Function.update (V₀ m d) main_v0 (labels m d)

theorem V₁_labels (d : Dev nD) : V₁ m d main_v0 = labels m d := Function.update_self ..
theorem V₁_of_ne (d : Dev nD) (b : Ref sig .tc) (h : b ≠ main_v0) : V₁ m d b = V₀ m d b := Function.update_of_ne h ..

/-- What the TensorCore owes before the call, its waits so far all at the lowest level. -/
def owesTc (d : Dev nD) : sProp 𝕄 := iprop(∃ W, ⌜(K (F := F)).WBelow (SparseCore.T d) W 0⌝ ∗ owes (SparseCore.T d) ((K (F := F)).Otc d 0) W)

theorem Otc_none (d : Dev nD) (g : GSem nD τ sig) : (K (F := F)).Otc d 0 g none = 0 := by
  by_contra h
  have := (K (F := F)).lev_of_Otc_pos (d := d) (n := 0) (g := g) (ι := none) (Nat.pos_of_ne_zero h)
  simp at this

set_option backward.isDefEq.respectTransparency.types false in
def reg : Pipeline.RegionSeg (pcfgs (F := F)) adm (pdats m) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody d := (body_obligation m d).loose
  hwaits d := Pipeline.cellsWaits_intro _ _ _ _ _ fun w s t => (K (F := F)).mayWait_none _ (Otc_none d)
  pre d := iprop(unscopedBufs d (V₀ m d) ∗ owesTc d)
  post d := iprop(unscopedBufs d (V₁ m d) ∗ owesTc d)
  X _ := BI.emp
  Y _ := BI.emp
  Z d := Pipeline.unscopedRest (Ix := HIx 1) (Name := ℕ) (U := UU) (Lvl := ℕ) spec0 d (V₀ m d)
  hentry d := by
    rw [Pipeline.ownSems0_none]
    have hsplit := Pipeline.arrays_of_unscopedBufs (p := 0) (pcfgs (F := F)) adm (pdats m) (launch0).win (launch0).arr_whole d
      ((pdats m 0 d).share_full fun _ => rfl) (V₀ m d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold owesTc Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats m 0 d).Φ 0 = Pipeline.scopedRest spec0 d from rfl]
    iintro ⟨-, -, Hr⟩; iexact Hr
  hout d := by
    rw [Pipeline.ownSems0_none, show (pdats m 0 d).Φ (Fin.last _) = Pipeline.scopedRest spec0 d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) (launch0).win (launch0).arr_whole d
      (pdats m) ((pdats m 0 d).share_full fun _ => rfl) (V₀ m d) (V₁ m d) ((pdats m 0 d).arrAt · cfg0.N)
      (fun w => by
        fin_cases w
        · exact ((pdats m 0 d).arrAt_in 0 rfl _).trans (V₁_of_ne m d main_arg0 (by decide)).symm
        · exact (V₁_labels m d).symm)
      (fun b hb => V₁_of_ne m d b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold owesTc Pipeline.Dat.owesAt Pipeline.owesWithin
    icases HO with ⟨%W, %hW, HO⟩; iexists W; isplitr
    · ipureintro
      intro p hp
      rcases hW hp with h | h
      · exact h
      · obtain ⟨w, s, rfl⟩ := h
        exact le_rfl
    iexact HO

end Cert.Proof.Collapse

end
-- ==== Proof.Run.lean ====
/-
  The whole program's run, for any floats: the labels' region, the SparseCore call, and the two steps that take the lengths out
  of the call's second result. What it leaves: the arguments as they were, the collapsed rows, the lengths, every counter zero.
-/
module

public import proofs.«01_k».proof.Proof.Tile
public import proofs.«01_k».proof.Proof.Region

@[expose] public section

noncomputable section

namespace Cert.Proof.Collapse

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element: the call's rounds, and the region's -/

theorem pin_inj : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) pin_inj) (Pipeline.launchToks (Pipeline.pin (pcfgs (F := F)) adm) pin_inj), 1))

/-- The region's share of the launch element on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem EP_eq : ((Emb.inl : Emb UP (UP × Counters)).trans
    (embR (nD := nD) (τ := τ) (sig := sig) (Ix := HIx 1) (Val := Elt F) (Name := ℕ) (Lvl := ℕ) (A := UH) (B := UP × Counters))) = (EP (F := F)) := rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (labels m) m).x q thr) := by
  have hx : (bigSep Finset.univ fun thr : Thread nD τ => bigSep Finset.univ fun q : Fin 1 => (P (F := F) (labels m) m).x q thr) = (iprop(emp) : sProp 𝕄) :=
    (bigSep_congr fun _ _ => bigSep_univ_of_subsingleton (0 : Fin 1)).trans (bigSep_emp_const _)
  have hG : (bigSep Finset.univ fun d : Dev nD => G (F := F) d)
      = iprop((bigSep Finset.univ fun d : Dev nD => bigSep Finset.univ fun p : Fin 1 => Pipeline.cellsGhost (Pipeline.pin (pcfgs (F := F)) adm) EP p d)
        ∗ bigSep Finset.univ fun d : Dev nD => bigSep Finset.univ fun p : Fin 1 => (Pipeline.toksInit (Pipeline.pin (pcfgs (F := F)) adm) EP p d : sProp 𝕄)) := by
    rw [← bigSep_sep']
    exact bigSep_congr fun d _ => by
      rw [bigSep_univ_of_subsingleton (0 : Fin 1), bigSep_univ_of_subsingleton (0 : Fin 1)]
  rw [hx, hG]
  unfold u₀
  iintro Hu
  ihave H := (ownU_pair _ _) $$ Hu
  icases H with ⟨HH, HR⟩
  ihave H := (own_pair_emb _ _ _) $$ HR
  icases H with ⟨HP', -⟩
  ihave HP := (Entails.of_eq (congrArg (fun e : Emb UP 𝕄 => BI.own (e (initOf (Pipeline.cells (Pipeline.pin (pcfgs (F := F)) adm) pin_inj)
    (Pipeline.launchToks (Pipeline.pin (pcfgs (F := F)) adm) pin_inj)))) (EP_eq (F := F)))) $$ HP'
  imod (Pipeline.fund_ghost (Pipeline.pin (pcfgs (F := F)) adm) EP pin_inj) $$ HP with ⟨Hg, Ht⟩
  imodintro
  isplitl [HH]; · iexact HH
  isplitl [Hg Ht]
  · isplitl [Hg] <;> iassumption
  iempintro

/-! ## @main on the TensorCore -/

abbrev len' : DevRef τ sig := Proc.devRef .tc (main_v1_1 : Ref sig .tc)
abbrev col' : DevRef τ sig := Proc.devRef .tc (main_v2 : Ref sig .tc)
abbrev res' : DevRef τ sig := Proc.devRef .tc (main_v3 : Ref sig .tc)
abbrev opCol : HloOp τ sig (Elt F) :=
  StableHlo.unary main_v1_1 main_v2 ((extractStridedSlice S16x1 ![0, 0] · slices_S16x16_S16x1_0_0) : (⟨S16x16, .i32⟩ : BufTy).Contents (Elt F) → (⟨S16x1, .i32⟩ : BufTy).Contents (Elt F))
abbrev opRes : HloOp τ sig (Elt F) := StableHlo.reshape main_v2 main_v3 (rfl : (.i32 : EltTy) = .i32) shapeCasts_S16x1_S16

/-- The three arrays of lengths. -/
abbrev lens3 : Finset (DevRef τ sig) := {len', col', res'}

theorem held_lens3 (d : Dev nD) (W : Valuation τ sig (Elt F)) :
    (held (SparseCore.T d) lens3 W : sProp 𝕄)
      = iprop((lenLoc d ↦{fullShare} W len') ∗ ((SparseCore.T d).loc main_v2 ↦{fullShare} W col') ∗ (SparseCore.T d).loc main_v3 ↦{fullShare} W res') := by
  unfold held lens3
  rw [SparseCore.bigSep_insert' (by decide), SparseCore.bigSep_insert' (by decide), bigSep_singleton]

theorem unscoped_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ (lensLoc d ↦{fullShare} W main_arg1) ∗ (mlLoc d ↦{fullShare} W main_v0)
        ∗ (tokLoc d ↦{fullShare} W main_v1_0) ∗ (lenLoc d ↦{fullShare} W main_v1_1)
        ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_arg1, main_v0, main_v1_0, main_v1_1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The memory after the call, where the last two steps look. -/
def W₁ (d : Dev nD) : Valuation τ sig (Elt F) := Function.update (fun b => m (d, b)) len' (lenFin (labels m) m d)
theorem W₁_len (d : Dev nD) : W₁ m d len' = lenFin (labels m) m d := Function.update_self ..
theorem W₁_col (d : Dev nD) : W₁ m d col' = m ((SparseCore.T d).loc main_v2) := Function.update_of_ne (show col' ≠ len' by decide) ..
theorem W₁_res (d : Dev nD) : W₁ m d res' = m ((SparseCore.T d).loc main_v3) := Function.update_of_ne (show res' ≠ len' by decide) ..

/-- The second result: the first column of the call's second result, as a vector. -/
def lenRes (d : Dev nD) : Buf (Elt F) ((SparseCore.T d : Thread nD τ).loc main_v3) :=
  shapeCast S16 (extractStridedSlice S16x1 ![0, 0] (lenFin (labels m) m d) slices_S16x16_S16x1_0_0 : Vec F S16x1 .i32) shapeCasts_S16x1_S16

theorem W₃_res (d : Dev nD) : (opRes (F := F)).result ((opCol (F := F)).result (W₁ m d)) res' = lenRes m d := by
  rw [StableHlo.reshape_result', StableHlo.unary_result', W₁_len]
  rfl

theorem hCol : (opCol (F := F)).bufs ⊆ lens3 := show ({len', col'} : Finset (DevRef τ sig)) ⊆ lens3 by decide
theorem hRes : (opRes (F := F)).bufs ⊆ lens3 := show ({col', res'} : Finset (DevRef τ sig)) ⊆ lens3 by decide

theorem st_eq (d : Dev nD) : (bigSep Finset.univ fun c : Fin ((K (F := F)).nCore 0) => (P (labels m) m).st 0 d c)
    = iprop((mlLoc d ↦{fullShare} labels m d) ∗ (lensLoc d ↦{fullShare} m (lensLoc d)) ∗ (tokLoc d ↦{fullShare} m (tokLoc d)) ∗ (lenLoc d ↦{fullShare} m (lenLoc d))) :=
  (ofRow_cores _).trans (rowIn_eq (labels m) m d)
theorem dn_eq (d : Dev nD) : (bigSep Finset.univ fun c : Fin ((K (F := F)).nCore 0) => (P (labels m) m).dn 0 d c)
    = iprop((mlLoc d ↦{fullShare} labels m d) ∗ (lensLoc d ↦{fullShare} m (lensLoc d)) ∗ (tokLoc d ↦{fullShare} tokFin (labels m) m d) ∗ (lenLoc d ↦{fullShare} lenFin (labels m) m d)) :=
  (ofRow_cores _).trans (rowBack_eq (labels m) m d)

/-- What @main leaves: the arguments, and the two results. -/
abbrev FIN (d : Dev nD) : sProp 𝕄 :=
  iprop(((SparseCore.T d).loc main_arg0 ↦{fullShare} m ((SparseCore.T d).loc main_arg0)) ∗ (lensLoc d ↦{fullShare} m (lensLoc d))
    ∗ (tokLoc d ↦{fullShare} tokFin (labels m) m d) ∗ ((SparseCore.T d).loc main_v3 ↦{fullShare} lenRes m d))

theorem tcSt_zero (d : Dev nD) : ∃ R : sProp 𝕄, (K (F := F)).tcSt EH d 0 = iprop(owesTc (F := F) d ∗ R) := ⟨_, rfl⟩

theorem reg_pre (d : Dev nD) : (reg m).pre d = iprop(unscopedBufs d (V₀ m d) ∗ owesTc (F := F) d) := rfl
theorem reg_post (d : Dev nD) : (reg m).post d = iprop(unscopedBufs d (V₁ m d) ∗ owesTc (F := F) d) := rfl

/-- A program of the pipeline's, run as one of the whole program's. -/
theorem lift_wp (d : Dev nD) (Φ : PUnit → sProp 𝕄) (p : Prog (TpuEff nD τ sig (Elt F) (ΛP (F := F)) .tc) PUnit) :
    wp frame (wpE (D (F := F)) 𝒱 (SparseCore.T d) none) Set.univ p Φ
      ⊢ wp frame (wpE ((K (F := F)).defs (D (F := F))) 𝒱 (SparseCore.T d) none) Set.univ (SparseCore.liftProg p) Φ :=
  (K (F := F)).wp_liftProg (D (F := F)) 𝒱 (SparseCore.T d) Set.univ none p Φ

theorem region_wp_inner [∀ e, Nonempty (Elt F e)] (d : Dev nD) (Φ : PUnit → sProp 𝕄) (k) :
    iprop((iprop(boundary (SparseCore.T d) ∗ (reg m).post d) -∗ wp frame (wpE (D (F := F)) 𝒱 (SparseCore.T d) none) Set.univ (k ⟨⟩) Φ)
        ∗ boundary (SparseCore.T d) ∗ (reg m).pre d ∗ levAts (K (F := F)).L (K (F := F)).lev ∗ G (F := F) d)
      ⊢ wp frame (wpE (D (F := F)) 𝒱 (SparseCore.T d) none) Set.univ (.op (.customCall (Pipeline.entry 0) ()) k) Φ :=
  Pipeline.RegionSeg.wp (pcfgs (F := F)) adm (pdats m) none pin_inj EP defs₀ 𝒱₀ (K (F := F)).L (K (F := F)).lev (reg m) d none
    (fun u hu => nomatch hu) k Φ

/-- The call of the region, in the pipeline's program. -/
def callRegion : Prog (TpuEff nD τ sig (Elt F) (ΛP (F := F)) .tc) PUnit := .op (.customCall (Pipeline.entry 0) ()) fun _ => .ret ⟨⟩
theorem callRegion_lift : (SparseCore.liftProg (Q := 1) (callRegion (F := F)) : Prog (TpuEff nD τ sig (Elt F) (SparseCore.Sig (ΛP (F := F)) 1) .tc) PUnit)
    = Prog.lift (.customCall (SparseCore.inner (Pipeline.entry 0)) ()) := rfl

/-- The region at the head of @main. -/
theorem region_wp [∀ e, Nonempty (Elt F e)] (d : Dev nD) (Φ : PUnit → sProp 𝕄) :
    iprop((iprop(boundary (SparseCore.T d) ∗ (reg m).post d) -∗ Φ ⟨⟩)
        ∗ boundary (SparseCore.T d) ∗ (reg m).pre d ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Φ := by
  rw [← callRegion_lift]
  iintro ⟨Hk, Hrest⟩
  iapply (lift_wp d Φ callRegion)
  unfold callRegion
  iapply (region_wp_inner m d Φ fun _ => .ret ⟨⟩)
  isplitl [Hk]
  · iintro H
    rw [wp_ret]; imodintro
    iapply Hk
    iexact H
  iexact Hrest

theorem hmain [∀ e, Nonempty (Elt F e)] (κ : GSem nD τ sig → ℕ) (d : Dev nD) :
    iprop((K (F := F)).ctx EH (P (labels m) m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  obtain ⟨R, hR⟩ := tcSt_zero (F := F) d
  simp only [main, wp_bind, wp_pure]
  iintro ⟨#Hctx, Hst, ⟨Hb, Hub, Hts, -⟩, HG⟩
  ihave Hst' := (Entails.of_eq hR) $$ Hst
  icases Hst' with ⟨HO, HR⟩
  ihave Hlev := ((K (F := F)).ctx_levAts κ) $$ Hctx
  iapply (region_wp m d) $$ [Hb Hub HO HG HR Hts Hlev]
  isplitl [HR Hts]
  swap
  · isplitl [Hb]; · iexact Hb
    isplitl [Hub HO]
    · rw [reg_pre]; isplitl [Hub] <;> iassumption
    isplitl [Hlev] <;> iassumption
  rw [reg_post]
  iintro ⟨Hb, Hub, HO⟩
  ihave Hst := (Entails.of_eq hR.symm) $$ [HO HR]
  · isplitl [HO] <;> iassumption
  ihave Hub' := (Entails.of_eq (unscoped_eq d (V₁ m d))) $$ Hub
  rw [V₁_labels, V₁_of_ne m d main_arg0 (by decide), V₁_of_ne m d main_arg1 (by decide), V₁_of_ne m d main_v1_0 (by decide),
    V₁_of_ne m d main_v1_1 (by decide), V₁_of_ne m d main_v2 (by decide), V₁_of_ne m d main_v3 (by decide)]
  icases Hub' with ⟨Hx, Hl, Hml, Htok, Hlen, Hcol, Hres⟩
  iapply ((K (F := F)).wp_run (D (F := F)) 𝒱 (EH := EH) (P := P (labels m) m) κ d 0) $$ [Hst Hx Hl Hml Htok Hlen Hcol Hres Hb Hts]
  isplitr; · iexact Hctx
  isplitl [Hst]; · iexact Hst
  isplitl [Hl Hml Htok Hlen]
  · rw [st_eq]
    isplitl [Hml]; · iexact Hml
    isplitl [Hl]; · iexact Hl
    isplitl [Htok] <;> iassumption
  iintro ⟨Hst, Hdn⟩
  ihave Hdn' := (Entails.of_eq (dn_eq m d)) $$ Hdn
  icases Hdn' with ⟨Hml, Hl, Htok, Hlen⟩
  iapply (wp_hlo_within 𝒱 (SparseCore.T d) none Set.univ (op := opCol) (S := lens3) hCol (V := W₁ m d)) $$ [Hb Hlen Hcol Hres]
  · isplitl [Hb]; · iexact Hb
    rw [held_lens3, W₁_len, W₁_col, W₁_res]
    isplitl [Hlen]; · iexact Hlen
    isplitl [Hcol] <;> iassumption
  iintro ⟨Hb, Hh⟩
  rw [wp_ret]; imodintro
  iapply (wp_hlo_within 𝒱 (SparseCore.T d) none Set.univ (op := opRes) (S := lens3) hRes (V := (opCol (F := F)).result (W₁ m d))) $$ [Hb Hh]
  · isplitl [Hb] <;> iassumption
  iintro ⟨Hb, Hh⟩
  ihave Hh' := (Entails.of_eq (held_lens3 (F := F) d _)) $$ Hh
  rw [W₃_res]
  icases Hh' with ⟨-, -, Hres⟩
  rw [wp_ret]; imodintro; imodintro
  isplitl [Hst]; · iexact Hst
  isplitr [Hb Hts]
  · isplitl [Hx]; · iexact Hx
    isplitl [Hl]; · iexact Hl
    isplitl [Htok] <;> iassumption
  isplitl [Hb] <;> iassumption

/-! ## The final memory -/

def fq (d : Dev nD) (s' : Phys nD τ sig (Elt F)) : Prop :=
  s'.mem.mem ((SparseCore.T d).loc main_arg0) = m ((SparseCore.T d).loc main_arg0) ∧ s'.mem.mem (lensLoc d) = m (lensLoc d)
    ∧ s'.mem.mem (tokLoc d) = tokFin (labels m) m d ∧ s'.mem.mem ((SparseCore.T d).loc main_v3) = lenRes m d

theorem hfin (d : Dev nD) (s' : Phys nD τ sig (Elt F)) : iprop(FIN m d ∗ SI s') ⊢ (⌜fq m d s'⌝ : sProp 𝕄) := by
  iintro ⟨⟨Hx, Hl, Htok, Hres⟩, HSI⟩
  ihave H := (persistent_entails_right (SI_pointsTo_agree (st := s') (ℓ := (SparseCore.T d).loc main_arg0) (I := Finset.univ) (q := fullShare) (f := m ((SparseCore.T d).loc main_arg0)))) $$ [HSI Hx]
  · isplitl [HSI] <;> iassumption
  icases H with ⟨%hx, HSI, -⟩
  ihave H := (persistent_entails_right (SI_pointsTo_agree (st := s') (ℓ := lensLoc d) (I := Finset.univ) (q := fullShare) (f := m (lensLoc d)))) $$ [HSI Hl]
  · isplitl [HSI] <;> iassumption
  icases H with ⟨%hl, HSI, -⟩
  ihave H := (persistent_entails_right (SI_pointsTo_agree (st := s') (ℓ := tokLoc d) (I := Finset.univ) (q := fullShare) (f := tokFin (labels m) m d))) $$ [HSI Htok]
  · isplitl [HSI] <;> iassumption
  icases H with ⟨%ht, HSI, -⟩
  ihave H := (SI_pointsTo_agree (st := s') (ℓ := (SparseCore.T d).loc main_v3) (I := Finset.univ) (q := fullShare) (f := lenRes m d)) $$ [HSI Hres]
  · isplitl [HSI] <;> iassumption
  icases H with %hr
  ipureintro
  exact ⟨funext fun i => hx i (Finset.mem_univ i), funext fun i => hl i (Finset.mem_univ i), funext fun i => ht i (Finset.mem_univ i),
    funext fun i => hr i (Finset.mem_univ i)⟩

/-- What every final state has. -/
def QC : PUnit × MemSt nD τ sig (Elt F) → Prop := fun r => (∀ d : Dev nD,
    r.2.mem ((SparseCore.T d).loc main_arg0) = m ((SparseCore.T d).loc main_arg0) ∧ r.2.mem (lensLoc d) = m (lensLoc d)
    ∧ r.2.mem (tokLoc d) = tokFin (labels m) m d ∧ r.2.mem ((SparseCore.T d).loc main_v3) = lenRes m d) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (labels m) m) (A := ∅) facts v₀
    (fun q hq => match q with | 0 => nomatch hq)
    (fun q _ => match q with | 0 => tileObl (labels m) m facts)
    (fun q _ => match q with | 0 => SparseCore.Cfg.VecSplit.of_plain (vecSplit (labels m) m))
    m ρ main (G (F := F)) (FIN m) (u₀ (F := F)) (sep_elim_left.trans (hu₀ m)) (hmain m ρ) (fq m) (hfin m) (QC m) (fun _ h hz => ⟨h, hz⟩)

end Cert.Proof.Collapse

end
-- ==== Proof.RefRun.lean ====
/-
  The run of the reference, a straight line of host operations.
-/
module

public import proofs.«01_k».proof.Defs
public import proofs.«01_k».proof.Proof.Gen.Kernel
public import proofs.«01_k».proof.Proof.Gen.KernelIdeal
public import proofs.«01_k».proof.Proof.Gen.ReferenceIdeal
public import Idealize.ShloMosaic.Lib.Claim
public import Idealize.ShloMosaic.Lib.Quiescent
public import Idealize.ShloMosaic.Lib.StableHlo.RunHlo
public import Idealize.ShloMosaic.Lib.StableHlo.RunRead

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-- The labels the reference computes, batch row by batch row: the argmax over the symbols, transposed. -/
def labR (x : FVec F S2048x16x1024 .f32) : IVec S16x2048 32 :=
  transpose S16x2048 [1, 0]
    (fun j => (Host.argReduce reducer_argmax_f32_i32 x (iotaInDim S2048x16x1024 32 2) (constant S_ .f32 0xFF800000#32)
      (constantI S_ 32 0#32) reducesTo_S2048x16x1024_S2048x16_d2 h_S_ j).2)
    transposes_S2048x16_S16x2048_1_0

/-- The label one step earlier, blank before the first. -/
def prevR (L : IVec S16x2048 32) : IVec S16x2048 32 :=
  concatenate S16x2048 1
    [⟨S16x1, broadcastInDim S16x1 ![] bcast_S_S16x1 (constantI S_ 32 0#32)⟩,
     ⟨S16x2047, extractStridedSlice S16x2047 ![0, 0] L slices_S16x2048_S16x2047_0_0⟩]
    concatenates_S16x1_S16x2047_S16x2048_d1

/-- Which symbols are kept. -/
def keepR (L : IVec S16x2048 32) (g : IVec S16 32) : IVec S16x2048 1 :=
  andi
    (andi (cmpi .ne L (broadcastInDim S16x2048 ![] bcast_S_S16x2048 (constantI S_ 32 0#32)))
      (ori (cmpi .eq (prevR L) (broadcastInDim S16x2048 ![] bcast_S_S16x2048 (constantI S_ 32 0#32)))
        (cmpi .ne L (prevR L))))
    (cmpi .slt
      (broadcastInDim S16x2048 ![0, 1] bcast_S1x2048_S16x2048_0_1
        (broadcastInDim S1x2048 ![1] bcast_S2048_S1x2048_1 (iotaInDim S2048 32 0)))
      (broadcastInDim S16x2048 ![0, 1] bcast_S16x1_S16x2048_0_1 (broadcastInDim S16x1 ![0] bcast_S16_S16x1_0 g)))

/-- The running count of the kept symbols. -/
def sumR (K : IVec S16x2048 1) : IVec S16x2048 32 :=
  Host.reduceWindow IntOp.addi ![1, 2048] ![1, 1] ![0, 2047] ![0, 0] (extui 32 K natLt_1_32)
    (broadcastInDim S_ ![] bcast_S_S_ (constantI S_ 32 0#32)) reduceWindows_S16x2048_S16x2048_w1s1p0_0_w2048s1p2047_0 h_S_

/-- Where each symbol goes: the kept ones to the running count minus one, the others to the slot past the end. -/
def destR (K : IVec S16x2048 1) : IVec S16x2048 32 :=
  select K (subi (sumR K) (broadcastInDim S16x2048 ![] bcast_S_S16x2048 (constantI S_ 32 1#32)))
    (broadcastInDim S16x2048 ![] bcast_S_S16x2048 (id (constantI S_ 32 2048#32)))

/-- The row numbers, as indices count them from either end. -/
def rowsR : IVec S16x1 32 :=
  select (cmpi .slt (broadcastInDim S16x1 ![0] bcast_S16_S16x1_0 (iotaInDim S16 32 0)) (broadcastInDim S16x1 ![] bcast_S_S16x1 (constantI S_ 32 0#32)))
    (addi (broadcastInDim S16x1 ![0] bcast_S16_S16x1_0 (iotaInDim S16 32 0)) (broadcastInDim S16x1 ![] bcast_S_S16x1 (constantI S_ 32 16#32)))
    (broadcastInDim S16x1 ![0] bcast_S16_S16x1_0 (iotaInDim S16 32 0))

/-- The destinations, as indices count them from either end. -/
def colsR (D : IVec S16x2048 32) : IVec S16x2048 32 :=
  select (cmpi .slt D (broadcastInDim S16x2048 ![] bcast_S_S16x2048 (constantI S_ 32 0#32)))
    (addi D (broadcastInDim S16x2048 ![] bcast_S_S16x2048 (constantI S_ 32 2049#32))) D

/-- The pairs of index words at which the labels are written. -/
def idxR (D : IVec S16x2048 32) : IVec S16x2048x2 32 :=
  concatenate S16x2048x2 2
    [⟨S16x2048x1, broadcastInDim S16x2048x1 ![0, 1] bcast_S16x2048_S16x2048x1_0_1
        (broadcastInDim S16x2048 ![0, 1] bcast_S16x1_S16x2048_0_1 rowsR)⟩,
     ⟨S16x2048x1, broadcastInDim S16x2048x1 ![0, 1] bcast_S16x2048_S16x2048x1_0_1 (colsR D)⟩]
    concatenates_S16x2048x1_S16x2048x1_S16x2048x2_d2

/-- The token matrix the reference returns. -/
def tokR (L : IVec S16x2048 32) (K : IVec S16x2048 1) : IVec S16x2048 32 :=
  extractStridedSlice S16x2048 ![0, 0]
    (Host.scatter scatter_S16x2049_S16x2048x2_S16x2048_n_01_01_2 (fun _ b => b)
      (broadcastInDim S16x2049 ![] bcast_S_S16x2049 (constantI S_ 32 4294967295#32)) (idxR (destR K)) L)
    slices_S16x2049_S16x2048_0_0

/-- The row lengths the reference returns. -/
def lenR (K : IVec S16x2048 1) : IVec S16 32 :=
  Host.reduce IntOp.addi (extui 32 K natLt_1_32) (constantI S_ 32 0#32) reducesTo_S16x2048_S16_d1 h_S_

set_option maxHeartbeats 4000000 in
/-- Every run of the reference ends with the two results at those values and the arguments as they were. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ c : Dev nD,
        r.2.mem (c.tc.loc main_v42) = tokR (labR (m (c.tc.loc main_arg0))) (keepR (labR (m (c.tc.loc main_arg0))) (m (c.tc.loc main_arg1)))
        ∧ r.2.mem (c.tc.loc main_v44) = lenR (keepR (labR (m (c.tc.loc main_arg0))) (m (c.tc.loc main_arg1)))
        ∧ r.2.mem (c.tc.loc main_arg0) = m (c.tc.loc main_arg0)
        ∧ r.2.mem (c.tc.loc main_arg1) = m (c.tc.loc main_arg1) := by
  hlo_run
  all_goals simp -implicitDefEqProofs only [TRef.toBuf, TRef.ofBuf, cast_cast, cast_eq]
  all_goals rfl

/-- The reference's frame: its run leaves the arguments as they were; the program has no semaphores. -/
theorem frame : Cert.quiescent_ReferenceIdeal := fun m ρ _ =>
  θ_run_mono (run (F := Ideal) m ρ) fun r h =>
    ⟨fun c => ⟨(h c).2.2.1, (h c).2.2.2⟩, sem_eq_zero_of_no_sems rfl r.2⟩

end Cert.Proof.Ref

end
-- ==== Proof.RefCollapse.lean ====
/-
  What the reference computes from the labels: its keep mask, running count, scatter and sum, read at an element, are the
  collapsed rows and the numbers kept.
-/
module

public import proofs.«01_k».proof.Proof.RefRun
public import proofs.«01_k».proof.Proof.Setup
public import Idealize.ShloMosaic.Lib.Routing.OpsSet
public import Idealize.ShloMosaic.Lib.Routing.OpsPair
public import Idealize.ShloMosaic.Lib.Pipeline.Value
public import Idealize.ShloMosaic.Lib.WordCmp

@[expose] public section

noncomputable section

namespace Cert.Proof.Ref

open Idealize.ShloMosaic Idealize.ShloMosaic.ValueIdx Idealize.ShloMosaic.Routing Idealize.SL.Sem
open Cert.ReferenceIdeal Cert.ReferenceIdeal.Gen Cert.Proof.Collapse Cert.Proof.Collapse

/-- A constant scalar spread over a shape reads as the constant. -/
theorem bcConst {s : Shape} (hb : S_.BroadcastsInDim s (![] : Fin 0 → Fin s.rank)) (w : BitVec 32) (j : s.Idx) :
    broadcastInDim s ![] hb (constantI S_ 32 w) j = w := bc0 hb _ j

theorem rowOf_apply (L : S16x2048.Idx → BitVec 32) (b : Fin 16) (t : Fin 2048) : rowOf L b t.val = L (ix2 b t) := by
  unfold rowOf
  rw [dif_pos t.isLt]

/-- The label before `t`, blank before the first. -/
theorem prevR_apply (L : IVec S16x2048 32) (b : Fin 16) (t : Fin 2048) : prevR L (ix2 b t) = prv (rowOf L b) t.val := by
  unfold prevR
  obtain ⟨t, ht⟩ := t
  cases t with
  | zero =>
    refine (concatenate_pair_apply_left (t := S16x2048) (s₁ := S16x1) (s₂ := S16x2047) (1 : Fin 2) _ _ _ (ix2 b ⟨0, ht⟩) rfl (ix2 b (0 : Fin 1)) fun a => ?_).trans (bcConst _ _ _)
    match a with
    | ⟨0, _⟩ => rfl
    | ⟨1, _⟩ => rfl
  | succ k =>
    have hk : k < 2047 := by omega
    refine (concatenate_pair_apply_right (t := S16x2048) (s₁ := S16x1) (s₂ := S16x2047) (1 : Fin 2) _ _ _ (ix2 b ⟨k + 1, ht⟩) rfl rfl
      (ix2 b (⟨k, hk⟩ : Fin 2047)) (fun a ha => ?_) rfl).trans ?_
    · match a with
      | ⟨0, _⟩ => rfl
      | ⟨1, _⟩ => exact absurd rfl ha
    · show extractStridedSlice S16x2047 ![0, 0] L slices_S16x2048_S16x2047_0_0 (ix2 b (⟨k, hk⟩ : Fin 2047)) = rowOf L b k
      rw [show rowOf L b k = L (ix2 b ⟨k, by omega⟩) from rowOf_apply L b ⟨k, by omega⟩]
      refine congrArg L (funext fun a => Fin.ext ?_)
      match a with
      | ⟨0, _⟩ => exact Nat.zero_add _
      | ⟨1, _⟩ => exact Nat.zero_add _

/-- The mask's bit at a position is set exactly when the position is kept. -/
theorem keepR_iff (L : IVec S16x2048 32) (g : IVec S16 32) (b : Fin 16) (t : Fin 2048) :
    keepR L g (ix2 b t) = 1#1 ↔ Keep (rowOf L b) (lenOf g b) t.val := by
  have h1 : broadcastInDim S16x2048 ![0, 1] bcast_S1x2048_S16x2048_0_1
      (broadcastInDim S1x2048 ![1] bcast_S2048_S1x2048_1 (iotaInDim S2048 32 0)) (ix2 b t) = BitVec.ofNat 32 t.val :=
    bcCols _ _ _ b t
  have h2 : broadcastInDim S16x2048 ![0, 1] bcast_S16x1_S16x2048_0_1 (broadcastInDim S16x1 ![0] bcast_S16_S16x1_0 g) (ix2 b t)
      = lenOf g b := bcRows _ _ _ b t
  have h3 := bcConst bcast_S_S16x2048 0#32 (ix2 b t)
  have h4 := prevR_apply L b t
  have h5 := rowOf_apply L b t
  have e : keepR L g (ix2 b t)
      = IntOp.andi (IntOp.andi (IntOp.cmpi .ne (rowOf L b t.val) 0#32)
          (IntOp.ori (IntOp.cmpi .eq (prv (rowOf L b) t.val) 0#32) (IntOp.cmpi .ne (rowOf L b t.val) (prv (rowOf L b) t.val))))
        (IntOp.cmpi .slt (BitVec.ofNat 32 t.val) (lenOf g b)) := by
    rw [← h1, ← h2, ← h4, h5]
    conv_rhs => rw [← h3]
    rfl
  rw [e]
  unfold Keep
  simp only [IntOp.cmpi]
  rw [WordCmp.ori_ofBool, WordCmp.andi_ofBool, WordCmp.andi_ofBool, WordCmp.ofBool_eq_one_iff]
  simp [and_assoc]

/-- The row lengths the reference returns are the numbers kept. -/
theorem lenR_apply (L : IVec S16x2048 32) (g : IVec S16 32) (b : Fin 16) :
    lenR (keepR L g) (ix1 b) = BitVec.ofNat 32 (cnt (rowOf L b) (lenOf g b) 2048) :=
  reduce_count (by decide) (keepR L g) natLt_1_32 reducesTo_S16x2048_S16_d1 h_S_ b (Keep (rowOf L b) (lenOf g b)) fun q =>
    keepR_iff L g b q

/-- A count as a sum of ones and zeros. -/
theorem sum_ones (Q : ℕ → Prop) [DecidablePred Q] (n : ℕ) :
    ((List.range n).map fun i => if Q i then 1 else 0).sum = Nat.count Q n := by
  induction n with
  | zero => rfl
  | succ n ih => rw [List.range_succ, List.map_append, List.sum_append, ih, Nat.count_succ]; simp

theorem numelW : (⟨2, ![1, 2048]⟩ : Shape).numel = 2048 := by decide

/-- The running count over a row: at `t`, how many of the positions up to and including `t` are set. -/
theorem sumR_apply (K : IVec S16x2048 1) (b : Fin 16) (Q : ℕ → Prop) [DecidablePred Q]
    (hQ : ∀ q : Fin 2048, K (ix2 b q) = 1#1 ↔ Q q.val) (t : Fin 2048) :
    sumR K (ix2 b t) = BitVec.ofNat 32 (Nat.count Q (t.val + 1)) := by
  have hx : ∀ q : Fin 2048, extui 32 K natLt_1_32 (ix2 b q) = BitVec.ofNat 32 (if Q q.val then 1 else 0) := fun q => by
    show (K (ix2 b q)).setWidth 32 = _
    by_cases h : Q q.val
    · rw [(hQ q).2 h, if_pos h]; rfl
    · have h0 : K (ix2 b q) = 0#1 := by
        rcases BitVec.eq_zero_or_eq_one (K (ix2 b q)) with e | e
        · exact e
        · exact absurd ((hQ q).1 e) h
      rw [h0, if_neg h]; rfl
  have ht := t.isLt
  unfold sumR Host.reduceWindow
  dsimp only
  refine (foldl_addi_ofNat _ _ (fun n => if 2047 ≤ t.val + n.val then (if Q (t.val + n.val - 2047) then 1 else 0) else 0)
    (fun n _ => ?_) _ 0 (bcConst bcast_S_S_ 0#32 _)).trans ?_
  · have hn : n.val < 2048 := lt_of_lt_of_eq n.isLt numelW
    have e := symm22 (A := 1) (B := 2048) n (by omega) (by omega)
    have hn1 : ((⟨2, ![1, 2048]⟩ : Shape).rowMajor.symm n 1).val = n.val := by
      rw [e]; show n.val % 2048 = n.val; omega
    have hn0 : ((⟨2, ![1, 2048]⟩ : Shape).rowMajor.symm n 0).val = 0 := by
      rw [e]; show n.val / 2048 = 0; omega
    split
    · next hin =>
      have h1 := hin 1
      change 2047 ≤ t.val * 1 + ((⟨2, ![1, 2048]⟩ : Shape).rowMajor.symm n 1).val
        ∧ t.val * 1 + ((⟨2, ![1, 2048]⟩ : Shape).rowMajor.symm n 1).val - 2047 < 2048 at h1
      rw [hn1] at h1
      rw [if_pos (by omega)]
      refine (congrArg (extui 32 K natLt_1_32) (funext fun a => Fin.ext ?_)).trans (hx ⟨t.val + n.val - 2047, by omega⟩)
      match a with
      | ⟨0, _⟩ =>
        show b.val * 1 + ((⟨2, ![1, 2048]⟩ : Shape).rowMajor.symm n 0).val - 0 = b.val
        rw [hn0]; omega
      | ⟨1, _⟩ =>
        show t.val * 1 + ((⟨2, ![1, 2048]⟩ : Shape).rowMajor.symm n 1).val - 2047 = t.val + n.val - 2047
        rw [hn1]; omega
    · next hin =>
      rw [if_neg fun hle => hin fun a => by
        match a with
        | ⟨0, _⟩ =>
          show 0 ≤ b.val * 1 + ((⟨2, ![1, 2048]⟩ : Shape).rowMajor.symm n 0).val
            ∧ b.val * 1 + ((⟨2, ![1, 2048]⟩ : Shape).rowMajor.symm n 0).val - 0 < 16
          rw [hn0]; have := b.isLt; omega
        | ⟨1, _⟩ =>
          show 2047 ≤ t.val * 1 + ((⟨2, ![1, 2048]⟩ : Shape).rowMajor.symm n 1).val
            ∧ t.val * 1 + ((⟨2, ![1, 2048]⟩ : Shape).rowMajor.symm n 1).val - 2047 < 2048
          rw [hn1]; omega]
      exact bcConst bcast_S_S_ 0#32 _
  · rw [Nat.zero_add, map_finRange_val _ fun w => if 2047 ≤ t.val + w then (if Q (t.val + w - 2047) then 1 else 0) else 0]
    have e1 := sum_window (fun i => if Q i then 1 else 0) 2047 t.val (by omega)
    rw [sum_ones] at e1
    have e2 : (⟨(S16x2048).rank, ![1, 2048]⟩ : Shape).numel = 2047 + 1 := numelW
    rw [e2]
    exact congrArg (BitVec.ofNat 32) e1

/-- Where the label at `t` goes: to the number kept before it, or to the slot past the end. -/
theorem destR_apply (K : IVec S16x2048 1) (b : Fin 16) (Q : ℕ → Prop) [DecidablePred Q]
    (hQ : ∀ q : Fin 2048, K (ix2 b q) = 1#1 ↔ Q q.val) (t : Fin 2048) :
    destR K (ix2 b t) = BitVec.ofNat 32 (if Q t.val then Nat.count Q t.val else 2048) := by
  have h1 := sumR_apply K b Q hQ t
  have h2 := bcConst bcast_S_S16x2048 1#32 (ix2 b t)
  have h3 := bcConst bcast_S_S16x2048 2048#32 (ix2 b t)
  have e : destR K (ix2 b t) = Scalar.select (K (ix2 b t)) (IntOp.subi (BitVec.ofNat 32 (Nat.count Q (t.val + 1))) 1#32) 2048#32 := by
    rw [← h1]
    conv_rhs => rw [← h2, ← h3]
    rfl
  rw [e]
  by_cases h : Q t.val
  · rw [(hQ t).2 h, if_pos h, Nat.count_succ, if_pos h]
    show BitVec.ofNat 32 (Nat.count Q t.val + 1) - 1#32 = _
    rw [BitVec.ofNat_add, BitVec.add_sub_cancel]
  · have h0 : K (ix2 b t) = 0#1 := by
      rcases BitVec.eq_zero_or_eq_one (K (ix2 b t)) with e | e
      · exact e
      · exact absurd ((hQ t).1 e) h
    rw [h0, if_neg h]; rfl

/-- The row word of every pair is its row's number. -/
theorem idxR_zero (D : IVec S16x2048 32) (b : Fin 16) (t : Fin 2048) : idxR D (ix3 b t (0 : Fin 2)) = BitVec.ofNat 32 b.val := by
  unfold idxR
  refine (concatenate_pair_apply_left (t := S16x2048x2) (s₁ := S16x2048x1) (s₂ := S16x2048x1) (2 : Fin 3) _ _ _ (ix3 b t (0 : Fin 2)) rfl
    (ix3 b t (0 : Fin 1)) fun a => ?_).trans ?_
  · match a with
    | ⟨0, _⟩ => rfl
    | ⟨1, _⟩ => rfl
    | ⟨2, _⟩ => rfl
  · refine (broadcastInDim_apply _ bcast_S16x2048_S16x2048x1_0_1 _ _ (ix2 b t) fun a => ?_).trans
      ((broadcastInDim_apply _ bcast_S16x1_S16x2048_0_1 _ _ (ix2 b (0 : Fin 1)) fun a => ?_).trans ?_)
    · match a with
      | ⟨0, _⟩ => rfl
      | ⟨1, _⟩ => rfl
    · match a with
      | ⟨0, _⟩ => rfl
      | ⟨1, _⟩ => rfl
    · have h1 : broadcastInDim S16x1 ![0] bcast_S16_S16x1_0 (iotaInDim S16 32 0) (ix2 b (0 : Fin 1)) = BitVec.ofNat 32 b.val := bcCol _ _ b
      have h2 := bcConst bcast_S_S16x1 0#32 (ix2 b (0 : Fin 1))
      have h3 := wrap_of_lt (BitVec.ofNat 32 b.val)
        (addi (broadcastInDim S16x1 ![0] bcast_S16_S16x1_0 (iotaInDim S16 32 0)) (broadcastInDim S16x1 ![] bcast_S_S16x1 (constantI S_ 32 16#32)) (ix2 b (0 : Fin 1)))
        (by have := b.isLt; rw [BitVec.toNat_ofNat]; omega)
      refine Eq.trans ?_ h3
      conv_rhs => rw [← h1, ← h2]
      rfl

/-- The column word of every pair is its label's destination, when that is a natural below the sign bit. -/
theorem idxR_one (D : IVec S16x2048 32) (b : Fin 16) (t : Fin 2048) (hD : (D (ix2 b t)).toNat < 2 ^ 31) :
    idxR D (ix3 b t (1 : Fin 2)) = D (ix2 b t) := by
  unfold idxR
  refine (concatenate_pair_apply_right (t := S16x2048x2) (s₁ := S16x2048x1) (s₂ := S16x2048x1) (2 : Fin 3) _ _ _ (ix3 b t (1 : Fin 2)) rfl rfl
    (ix3 b t (0 : Fin 1)) (fun a ha => ?_) rfl).trans ?_
  · match a with
    | ⟨0, _⟩ => rfl
    | ⟨1, _⟩ => rfl
    | ⟨2, _⟩ => exact absurd rfl ha
  · refine (broadcastInDim_apply _ bcast_S16x2048_S16x2048x1_0_1 _ _ (ix2 b t) fun a => ?_).trans ?_
    · match a with
      | ⟨0, _⟩ => rfl
      | ⟨1, _⟩ => rfl
    · have h2 := bcConst bcast_S_S16x2048 0#32 (ix2 b t)
      have h3 := wrap_of_lt (D (ix2 b t)) (addi D (broadcastInDim S16x2048 ![] bcast_S_S16x2048 (constantI S_ 32 2049#32)) (ix2 b t)) hD
      refine Eq.trans ?_ h3
      conv_rhs => rw [← h2]
      rfl

/-- The token matrix the reference returns is the collapsed rows. -/
theorem tokR_apply (L : IVec S16x2048 32) (g : IVec S16 32) (r : Fin 16) (c : Fin 2048) :
    tokR L (keepR L g) (ix2 r c) = tok (rowOf L r) (lenOf g r) 2048 c.val := by
  have hc := c.isLt
  have hd : ∀ b t, destR (keepR L g) (ix2 b t)
      = BitVec.ofNat 32 (if Keep (rowOf L b) (lenOf g b) t.val then cnt (rowOf L b) (lenOf g b) t.val else 2048) := fun b t =>
    destR_apply _ b _ (fun q => keepR_iff L g b q) t
  have hlt : ∀ (b : Fin 16) (t : Fin 2048),
      (if Keep (rowOf L b) (lenOf g b) t.val then cnt (rowOf L b) (lenOf g b) t.val else 2048) < 2049 := fun b t => by
    have := t.isLt; have := cnt_le (rowOf L b) (lenOf g b) t.val; split <;> omega
  have lands : ∀ (b : Fin 16) (t : Fin 2048) (c' : Fin 2049),
      scatter_S16x2049_S16x2048x2_S16x2048_n_01_01_2.resultIdx? (ix2 b t) (idxR (destR (keepR L g))) = some (ix2 r c')
        ↔ b = r ∧ (if Keep (rowOf L b) (lenOf g b) t.val then cnt (rowOf L b) (lenOf g b) t.val else 2048) = c'.val := fun b t c' => by
    have hl := hlt b t
    rw [scatter_lands2 scatter_S16x2049_S16x2048x2_S16x2048_n_01_01_2 rfl rfl rfl, idxR_zero,
      idxR_one _ _ _ (by rw [hd, BitVec.toNat_ofNat]; omega), hd,
      WordCmp.toInt_ofNat_of_lt (by have := b.isLt; omega), WordCmp.toInt_ofNat_of_lt (by omega)]
    constructor
    · rintro ⟨h1, h2⟩; exact ⟨Fin.ext (by omega), by omega⟩
    · rintro ⟨rfl, h2⟩; exact ⟨rfl, by omega⟩
  have hs : tokR L (keepR L g) (ix2 r c)
      = Host.scatter scatter_S16x2049_S16x2048x2_S16x2048_n_01_01_2 (fun _ b => b)
          (broadcastInDim S16x2049 ![] bcast_S_S16x2049 (constantI S_ 32 4294967295#32)) (idxR (destR (keepR L g))) L
          (ix2 r (⟨c.val, by omega⟩ : Fin 2049)) := by
    unfold tokR extractStridedSlice
    refine congrArg _ (funext fun a => Fin.ext ?_)
    match a with
    | ⟨0, _⟩ => exact Nat.zero_add _
    | ⟨1, _⟩ => exact Nat.zero_add _
  rw [hs]
  by_cases he : ∃ j, j < 2048 ∧ Keep (rowOf L r) (lenOf g r) j ∧ cnt (rowOf L r) (lenOf g r) j = c.val
  · obtain ⟨j, hj, hk, hp⟩ := he
    rw [tok_kept hj hk hp]
    refine scatter_set_hit _ _ _ _ _ _ (fun k hl => ?_) (ix2 r ⟨j, hj⟩) ((lands _ _ _).2 ⟨rfl, by rw [if_pos hk]; exact hp⟩)
    obtain ⟨b, t, rfl⟩ : ∃ b t, k = ix2 b t := ⟨k 0, k 1, eq_ix2 k⟩
    obtain ⟨rfl, h2⟩ := (lands b t _).1 hl
    dsimp only at h2
    split at h2
    · next hkt =>
      rw [← rowOf_apply L b t]
      exact congrArg (rowOf L b) (Nat.count_injective hkt hk (h2.trans hp.symm))
    · omega
  · rw [tok_none fun j hj hk hp => he ⟨j, hj, hk, hp⟩]
    refine (scatter_set_miss _ _ _ _ _ fun k hl => ?_).trans (bcConst _ _ _)
    obtain ⟨b, t, rfl⟩ : ∃ b t, k = ix2 b t := ⟨k 0, k 1, eq_ix2 k⟩
    obtain ⟨rfl, h2⟩ := (lands b t _).1 hl
    dsimp only at h2
    split at h2
    · next hkt => exact he ⟨t.val, t.isLt, hkt, h2⟩
    · omega

/-- The same for the whole matrix. -/
theorem tokR_eq (L : IVec S16x2048 32) (g : IVec S16 32) : tokR L (keepR L g) = tokOut L g := by
  funext y
  rw [eq_ix2 y]
  exact tokR_apply L g (y 0) (y 1)

end Cert.Proof.Ref

end
-- ==== Proof.Argmax.lean ====
/-
  The first place where a row of 1024 extended reals is greatest, found two ways.

  The reference folds the pairs (value, place) with a rule that keeps the greater value and, of equal values, the smaller place.
  The kernel takes the row's maximum, replaces every value equal to it by its place and every other by 1024, and takes the
  minimum. Both give the first place, a row that is −∞ throughout included: its first place is 0.
-/
module

public import proofs.«01_k».proof.Proof.RefRun
public import proofs.«01_k».proof.Proof.Gen.KernelIdeal.Skeleton
public import Idealize.ShloMosaic.PureOps.Ideal.Laws
public import Idealize.ShloMosaic.Lib.ValueIdxCore
public import Idealize.ShloMosaic.Lib.ValueLayout
public import Idealize.ShloMosaic.Lib.Pipeline.Value

@[expose] public section

set_option maxRecDepth 16384

noncomputable section

namespace Cert.Proof.Argmax

open Idealize.ShloMosaic Idealize.ShloMosaic.ValueIdx

/-- `n` is the first place where the row is greatest. -/
def First (row : Fin 1024 → EReal) (n : Fin 1024) : Prop :=
  (∀ k, row k ≤ row n) ∧ ∀ k, row k = row n → n ≤ k

/-! ## The reference's fold -/

/-- What the fold knows after the places of `S`: its value bounds theirs, no earlier place attains it, and its own place's value
    is no smaller. -/
def Knows (row : Fin 1024 → EReal) (S : Fin 1024 → Prop) (a : Ideal .f32 × BitVec 32) : Prop :=
  ∃ n : Fin 1024, a.2 = BitVec.ofNat 32 n.val ∧ (∀ k, S k → row k ≤ (a.1 : EReal) ∧ (row k = (a.1 : EReal) → n ≤ k)) ∧ (a.1 : EReal) ≤ row n

theorem slt_ofNat (a b : Fin 1024) : (IntOp.cmpi .slt (BitVec.ofNat 32 a.val) (BitVec.ofNat 32 b.val) = 1#1) ↔ a.val < b.val := by
  have ha := a.isLt
  have hb := b.isLt
  have ta : (BitVec.ofNat 32 a.val).toInt = a.val := by
    rw [BitVec.toInt_eq_toNat_of_lt (by rw [BitVec.toNat_ofNat]; omega), BitVec.toNat_ofNat]; omega
  have tb : (BitVec.ofNat 32 b.val).toInt = b.val := by
    rw [BitVec.toInt_eq_toNat_of_lt (by rw [BitVec.toNat_ofNat]; omega), BitVec.toNat_ofNat]; omega
  simp only [IntOp.cmpi, BitVec.slt, ta, tb]
  by_cases h : a.val < b.val <;> simp [h]

theorem knows_step (row : Fin 1024 → EReal) (S : Fin 1024 → Prop) (a : Ideal .f32 × BitVec 32) (ha : Knows row S a) (k : Fin 1024) :
    Knows row (fun i => S i ∨ i = k)
      (Cert.ReferenceIdeal.reducer_argmax_f32_i32 (F := Ideal) a (row k, BitVec.ofNat 32 k.val)) := by
  obtain ⟨n, hn, hS, hle⟩ := ha
  obtain ⟨v, i⟩ := a
  simp only at hn hS hle
  subst hn
  have hslt := slt_ofNat n k
  by_cases hlt : row k < (v : EReal)
  · have : Cert.ReferenceIdeal.reducer_argmax_f32_i32 (F := Ideal) (v, BitVec.ofNat 32 n.val) (row k, BitVec.ofNat 32 k.val)
        = (v, BitVec.ofNat 32 n.val) := by
      simp [Cert.ReferenceIdeal.reducer_argmax_f32_i32, Ideal.cmpf_def, Ideal.cmp, hlt, Scalar.select, IntOp.ori]
      intro hw
      generalize IntOp.andi _ _ = w at hw
      exact absurd hw (by revert w; decide)
    rw [this]
    refine ⟨n, rfl, ?_, hle⟩
    rintro j (hj | rfl)
    · exact hS j hj
    · exact ⟨hlt.le, fun e => absurd e hlt.ne⟩
  · by_cases heq : (v : EReal) = row k
    · subst heq
      by_cases hnk : n.val < k.val
      · have h1 : IntOp.cmpi .slt (BitVec.ofNat 32 n.val) (BitVec.ofNat 32 k.val) = 1#1 := hslt.2 hnk
        have : Cert.ReferenceIdeal.reducer_argmax_f32_i32 (F := Ideal) (row k, BitVec.ofNat 32 n.val) (row k, BitVec.ofNat 32 k.val)
            = (row k, BitVec.ofNat 32 n.val) := by
          simp [Cert.ReferenceIdeal.reducer_argmax_f32_i32, Ideal.cmpf_def, Ideal.cmp, Scalar.select, IntOp.ori, IntOp.andi, h1]
        rw [this]
        refine ⟨n, rfl, ?_, hle⟩
        rintro j (hj | rfl)
        · exact hS j hj
        · exact ⟨le_refl _, fun _ => Fin.le_def.2 hnk.le⟩
      · have h1 : IntOp.cmpi .slt (BitVec.ofNat 32 n.val) (BitVec.ofNat 32 k.val) ≠ 1#1 := fun h => hnk (hslt.1 h)
        have h0 : IntOp.cmpi .slt (BitVec.ofNat 32 n.val) (BitVec.ofNat 32 k.val) = 0#1 := by
          generalize IntOp.cmpi .slt (BitVec.ofNat 32 n.val) (BitVec.ofNat 32 k.val) = w at h1 ⊢
          revert h1; revert w; decide
        have : Cert.ReferenceIdeal.reducer_argmax_f32_i32 (F := Ideal) (row k, BitVec.ofNat 32 n.val) (row k, BitVec.ofNat 32 k.val)
            = (row k, BitVec.ofNat 32 k.val) := by
          simp [Cert.ReferenceIdeal.reducer_argmax_f32_i32, Ideal.cmpf_def, Ideal.cmp, Scalar.select, IntOp.ori, IntOp.andi, h0]
        rw [this]
        refine ⟨k, rfl, ?_, le_refl _⟩
        rintro j (hj | rfl)
        · exact ⟨(hS j hj).1, fun e => le_trans (Fin.le_def.2 (not_lt.1 hnk)) ((hS j hj).2 e)⟩
        · exact ⟨le_refl _, fun _ => le_refl _⟩
    · have hgt : (v : EReal) < row k := lt_of_le_of_ne (not_lt.1 hlt) heq
      have : Cert.ReferenceIdeal.reducer_argmax_f32_i32 (F := Ideal) (v, BitVec.ofNat 32 n.val) (row k, BitVec.ofNat 32 k.val)
          = (row k, BitVec.ofNat 32 k.val) := by
        simp [Cert.ReferenceIdeal.reducer_argmax_f32_i32, Ideal.cmpf_def, Ideal.cmp, hlt, heq, Scalar.select, IntOp.ori, IntOp.andi]
      rw [this]
      refine ⟨k, rfl, ?_, le_refl _⟩
      rintro j (hj | rfl)
      · have := lt_of_le_of_lt (hS j hj).1 hgt
        exact ⟨this.le, fun e => absurd e this.ne⟩
      · exact ⟨le_refl _, fun _ => le_refl _⟩

theorem knows_foldl (row : Fin 1024 → EReal) (l : List (Ideal .f32 × BitVec 32)) :
    ∀ (S : Fin 1024 → Prop) (a : Ideal .f32 × BitVec 32), Knows row S a →
      (∀ p ∈ l, ∃ k : Fin 1024, p = (row k, BitVec.ofNat 32 k.val)) →
      Knows row (fun i => S i ∨ ((row i, BitVec.ofNat 32 i.val) : Ideal .f32 × BitVec 32) ∈ l)
        (l.foldl (Cert.ReferenceIdeal.reducer_argmax_f32_i32 (F := Ideal)) a) := by
  induction l with
  | nil => intro S a ha _; simpa using ha
  | cons p l ih =>
    intro S a ha hl
    obtain ⟨k, rfl⟩ := hl p List.mem_cons_self
    have := ih _ _ (knows_step row S a ha k) (fun q hq => hl q (List.mem_cons_of_mem _ hq))
    rw [List.foldl_cons]
    obtain ⟨n, hn, hS, hle⟩ := this
    refine ⟨n, hn, fun i hi => hS i ?_, hle⟩
    rcases hi with hi | hi
    · exact .inl (.inl hi)
    · rcases List.mem_cons.1 hi with e | hi
      · refine .inl (.inr (Fin.ext ?_))
        have e2 := congrArg (fun p => BitVec.toNat p.2) e
        have := i.isLt
        have := k.isLt
        simp only [BitVec.toNat_ofNat] at e2
        omega
      · exact .inr hi

/-- The fold from (−∞, 0) over all the places ends at the first place of the maximum. -/
theorem foldl_first (row : Fin 1024 → EReal) (l : List (Ideal .f32 × BitVec 32))
    (hl : ∀ p ∈ l, ∃ k : Fin 1024, p = (row k, BitVec.ofNat 32 k.val))
    (hc : ∀ k : Fin 1024, ((row k, BitVec.ofNat 32 k.val) : Ideal .f32 × BitVec 32) ∈ l) :
    ∃ n, First row n ∧ (l.foldl (Cert.ReferenceIdeal.reducer_argmax_f32_i32 (F := Ideal)) ((⊥ : EReal), 0#32)).2 = BitVec.ofNat 32 n.val := by
  obtain ⟨n, hn, hS, hle⟩ := knows_foldl row l (fun _ => False) ((⊥ : EReal), 0#32) ⟨0, rfl, fun _ h => h.elim, bot_le⟩ hl
  have e : ((l.foldl (Cert.ReferenceIdeal.reducer_argmax_f32_i32 (F := Ideal)) ((⊥ : EReal), 0#32)).1 : EReal) = row n :=
    le_antisymm hle (hS n (.inr (hc n))).1
  refine ⟨n, ⟨fun k => ?_, fun k hk => ?_⟩, hn⟩
  · rw [← e]; exact (hS k (.inr (hc k))).1
  · exact (hS k (.inr (hc k))).2 (by rw [e]; exact hk)

/-! ## The kernel's maximum and minimum -/

theorem fold_max_first (row : Fin 1024 → EReal) (n : Fin 1024) (h : First row n) :
    (Finset.univ : Finset (Fin 1024)).fold max (⊥ : EReal) row = row n :=
  le_antisymm (Finset.fold_max_le _ |>.2 ⟨bot_le, fun k _ => h.1 k⟩)
    (Finset.le_fold_max _ |>.2 (.inr ⟨n, Finset.mem_univ _, le_refl _⟩))

theorem fold_min_first (row : Fin 1024 → EReal) (n : Fin 1024) (h : First row n) (f : Fin 1024 → EReal)
    (hf : ∀ k, f k = if row k = row n then ((k.val : ℝ) : EReal) else ((1024 : ℝ) : EReal)) :
    (Finset.univ : Finset (Fin 1024)).fold min (⊤ : EReal) f = ((n.val : ℝ) : EReal) := by
  refine le_antisymm (Finset.fold_min_le _ |>.2 (.inr ⟨n, Finset.mem_univ _, ?_⟩))
    (Finset.le_fold_min _ |>.2 ⟨le_top, fun k _ => ?_⟩)
  · rw [hf, if_pos rfl]
  · rw [hf]
    by_cases e : row k = row n
    · rw [if_pos e]
      exact_mod_cast Fin.le_def.1 (h.2 k e)
    · rw [if_neg e]
      exact_mod_cast n.isLt.le

theorem fptosi_nat (n : Fin 1024) : Ideal.fptosi 32 ((n.val : ℝ) : EReal) = BitVec.ofNat 32 n.val := by
  have hn := n.isLt
  have : Ideal.toIntClamped (-(2 ^ (32 - 1) : Nat)) ((2 ^ (32 - 1) : Nat) - 1) ((n.val : ℝ) : EReal) = (n.val : Int) := by
    show max _ (min _ (if (0 : ℝ) ≤ (n.val : ℝ) then ⌊(n.val : ℝ)⌋ else ⌈(n.val : ℝ)⌉)) = _
    rw [if_pos (Nat.cast_nonneg _), Int.floor_natCast]
    norm_num
    omega
  unfold Ideal.fptosi
  rw [this]
  rfl

theorem ofBits_1024 : Ideal.ofBits .f32 0x44800000#32 = ((1024 : ℝ) : EReal) := by
  simp [Ideal.ofBits, Ideal.ieee, -EReal.coe_mul]; norm_num
theorem ofBits_bot : Ideal.ofBits .f32 0xFF800000#32 = (⊥ : EReal) := by simp [Ideal.ofBits, Ideal.ieee]
theorem ofBits_top : Ideal.ofBits .f32 0x7F800000#32 = (⊤ : EReal) := by simp [Ideal.ofBits, Ideal.ieee]

/-! ## The two programs at a frame -/

section Block

open Cert.KernelIdeal Cert.KernelIdeal.Gen

theorem lift_eq (h : S256x16x1024.Reduces [2] S256x16) (s : Fin 256) (b : Fin 16) (k : Fin 1024) : h.lift (ix2 s b) k = ix3 s b k := by
  funext a
  match a with
  | ⟨0, _⟩ => rfl
  | ⟨1, _⟩ => rfl
  | ⟨2, _⟩ => rfl

theorem max_apply (x : FVec Ideal S256x16x1024 .f32) (hr : S256x16x1024.Reduces [2] S256x16) (hφ : FKind.Formats .f32)
    (ha : (0xFF800000#32 : BitVec 32) = FKind.maximumf.neutral .f32 hφ) (s : Fin 256) (b : Fin 16) (n : Fin 1024)
    (h : First (fun k => x (ix3 s b k)) n) :
    multiReduction .maximumf [2] S256x16 x 0xFF800000#32 hr hφ ha (ix2 s b) = x (ix3 s b n) := by
  rw [Ideal.multiReduction_maximumf_single, Ideal.ofBits_def, ofBits_bot]
  refine Eq.trans ?_ (fold_max_first (fun k => x (ix3 s b k)) n h)
  exact congrArg (fun f => (Finset.univ : Finset (Fin 1024)).fold max (⊥ : EReal) f) (funext fun k => congrArg x (lift_eq hr s b k))

theorem min_apply (y : FVec Ideal S256x16x1024 .f32) (hr : S256x16x1024.Reduces [2] S256x16) (hφ : FKind.Formats .f32)
    (ha : (0x7F800000#32 : BitVec 32) = FKind.minimumf.neutral .f32 hφ) (s : Fin 256) (b : Fin 16) (n : Fin 1024)
    (row : Fin 1024 → EReal) (h : First row n)
    (hy : ∀ k, y (ix3 s b k) = if row k = row n then ((k.val : ℝ) : EReal) else ((1024 : ℝ) : EReal)) :
    multiReduction .minimumf [2] S256x16 y 0x7F800000#32 hr hφ ha (ix2 s b) = ((n.val : ℝ) : EReal) := by
  rw [multiReduction_minimumf_eq_fold, Shape.Reduces.fold_filter_drop_single, Ideal.ofBits_def, ofBits_top]
  exact fold_min_first row n h _ fun k => (congrArg y (lift_eq hr s b k)).trans (hy k)

theorem cast_apply (v : FVec Ideal S256x16 .f32) (hc : S256x16.ShapeCasts S256x16x1) (s : Fin 256) (b : Fin 16) :
    shapeCast S256x16x1 v hc (ix3 s b (0 : Fin 1)) = v (ix2 s b) :=
  shapeCast_apply _ _ _ _ (by
    rw [Shape.rowMajor_val_three, Shape.rowMajor_val_two]
    show s.val * 16 + b.val = (s.val * 16 + b.val) * 1 + 0
    omega)

theorem spread_apply (v : FVec Ideal S256x16x1 .f32) (hb : S256x16x1.Broadcasts S256x16x1024) (s : Fin 256) (b : Fin 16) (k : Fin 1024) :
    broadcastTo S256x16x1024 v hb (ix3 s b k) = v (ix3 s b (0 : Fin 1)) :=
  broadcastTo_apply _ _ _ _ fun a => by
    match a with
    | ⟨0, _⟩ => rfl
    | ⟨1, _⟩ => rfl
    | ⟨2, _⟩ => rfl

theorem place_apply (hi : S256x16x1024.Iotas .tc 32 [2]) (s : Fin 256) (b : Fin 16) (k : Fin 1024) :
    (sitofp .f32 (iota .tc S256x16x1024 32 [2] hi) : FVec Ideal S256x16x1024 .f32) (ix3 s b k) = ((k.val : ℝ) : EReal) := by
  have hk : (BitVec.ofNat 32 k.val).toInt = (k.val : Int) := by
    have := k.isLt
    rw [BitVec.toInt_eq_toNat_of_lt (by rw [BitVec.toNat_ofNat]; omega), BitVec.toNat_ofNat]; omega
  show (((iota .tc S256x16x1024 32 [2] hi (ix3 s b k)).toInt : ℝ) : EReal) = _
  rw [iota_single_apply]
  show (((BitVec.ofNat 32 k.val).toInt : ℝ) : EReal) = _
  rw [hk]
  rfl

/-- The kernel's label of frame `s` of row `b` of a block. -/
theorem pay1_apply (x : FVec Ideal S256x16x1024 .f32) (s : Fin 256) (b : Fin 16) (n : Fin 1024)
    (h : First (fun k => x (ix3 s b k)) n) :
    k0_pay1 (F := Ideal) x (ix2 b s) = BitVec.ofNat 32 n.val := by
  unfold k0_pay1
  refine Eq.trans (transpose_ix2_apply _ _ b s) ?_
  refine Eq.trans (congrArg (Ideal.fptosi 32) (min_apply _ _ _ _ s b n (fun k => x (ix3 s b k)) h fun k => ?_)) (fptosi_nat n)
  have e := ((spread_apply _ broadcasts_S256x16x1_S256x16x1024 s b k).trans
    (cast_apply _ shapeCasts_S256x16_S256x16x1 s b)).trans (max_apply x reduces_S256x16x1024_S256x16 (.inl rfl) rfl s b n h)
  have p := place_apply iota_S256x16x1024_d2_w32 s b k
  refine Eq.trans (congrArg₂ (fun u v => Scalar.select (Ideal.cmp .oeq (x (ix3 s b k)) u) v (Ideal.ofBits .f32 0x44800000#32)) e p) ?_
  show Scalar.select (Ideal.cmp .oeq (x (ix3 s b k)) (x (ix3 s b n))) ((k.val : ℝ) : EReal) (Ideal.ofBits .f32 0x44800000#32) = _
  rw [ofBits_1024]
  by_cases q : x (ix3 s b k) = x (ix3 s b n)
  · simp [Scalar.select, Ideal.cmp, q]
  · simp [Scalar.select, Ideal.cmp, q]

end Block

open Cert.ReferenceIdeal Cert.ReferenceIdeal.Gen in
/-- The reference's label of frame `t` of row `b`. -/
theorem labR_apply (x : FVec Ideal S2048x16x1024 .f32) (b : Fin 16) (t : Fin 2048) :
    ∃ n, First (fun k => x (ix3 t b k)) n ∧ Ref.labR x (ix2 b t) = BitVec.ofNat 32 n.val := by
  obtain ⟨n, hn, e⟩ := foldl_first (fun k => x (ix3 t b k))
    (Host.argReduceFiber x (iotaInDim S2048x16x1024 32 2) reducesTo_S2048x16x1024_S2048x16_d2 (ix2 t b))
    (fun p hp => by
      unfold Host.argReduceFiber at hp
      obtain ⟨i, hi, rfl⟩ := List.mem_map.1 hp
      have hd := of_decide_eq_true (List.mem_filter.1 hi).2
      generalize S2048x16x1024.rowMajor.symm i = j at hd ⊢
      have h0 : (j 0).val = t.val := congrArg (fun f => (f 0).val) hd
      have h1 : (j 1).val = b.val := congrArg (fun f => (f 1).val) hd
      have hj : j = ix3 t b (j 2) := by
        rw [eq_ix3 j]
        funext a
        match a with
        | ⟨0, _⟩ => exact Fin.ext h0
        | ⟨1, _⟩ => exact Fin.ext h1
        | ⟨2, _⟩ => rfl
      exact ⟨j 2, Prod.ext (congrArg x hj) rfl⟩)
    (fun k => by
      unfold Host.argReduceFiber
      refine List.mem_map.2 ⟨S2048x16x1024.rowMajor (ix3 t b k), List.mem_filter.2 ⟨List.mem_finRange _, decide_eq_true ?_⟩, ?_⟩
      · rw [Equiv.symm_apply_apply]
        funext a
        match a with
        | ⟨0, _⟩ => rfl
        | ⟨1, _⟩ => rfl
      · rw [Equiv.symm_apply_apply]; rfl)
  refine ⟨n, hn, ?_⟩
  unfold Ref.labR
  rw [transpose_ix2_apply, Ideal.argReduce_eq_reduce2, Host.reduce2_eq_foldl_fiber]
  have hz : ((constant S_ .f32 0xFF800000#32 : FVec Ideal S_ .f32) (Shape.Idx.first h_S_), constantI S_ 32 0#32 (Shape.Idx.first h_S_))
      = ((⊥ : EReal), 0#32) := Prod.ext ofBits_bot rfl
  rw [hz]
  exact e

/-- Where a block holds the reference's frames, the kernel's labels are the reference's. -/
theorem pay1_eq (x : FVec Ideal Cert.KernelIdeal.S256x16x1024 .f32) (y : FVec Ideal Cert.ReferenceIdeal.S2048x16x1024 .f32)
    (s : Fin 256) (t : Fin 2048) (b : Fin 16) (h : ∀ k : Fin 1024, x (ix3 s b k) = y (ix3 t b k)) :
    Cert.KernelIdeal.Gen.k0_pay1 (F := Ideal) x (ix2 b s) = Ref.labR y (ix2 b t) := by
  obtain ⟨n, hn, e⟩ := labR_apply y b t
  rw [e]
  exact pay1_apply x s b n (by rw [show (fun k => x (ix3 s b k)) = fun k => y (ix3 t b k) from funext h]; exact hn)

end Cert.Proof.Argmax
-- ==== Proof.Labels.lean ====
/-
  The labels the region leaves are the reference's.

  Point `t` of the region writes columns `256 t … 256 t + 255` of the labels from frames `256 t … 256 t + 255` of the scores.
-/
module

public import proofs.«01_k».proof.Proof.Argmax
public import proofs.«01_k».proof.Proof.Run
public import proofs.«01_k».proof.Proof.RefCollapse
public import Idealize.ShloMosaic.Lib.Pipeline.ValueKit

@[expose] public section

set_option maxRecDepth 16384

noncomputable section

namespace Cert.Proof.Collapse

open Idealize.ShloMosaic hiding ix1 ix2 ix3 eq_ix1 eq_ix2 eq_ix3
open Idealize.ShloMosaic.TcCoe Idealize.ShloMosaic.ValueIdx
open Cert.KernelIdeal Cert.KernelIdeal.Gen

theorem labelsOf_eq {F : FTy → Type} [FloatOps F] [∀ e, Nonempty (Elt F e)] (x : Vec F S256x16x1024 .f32) :
    labelsOf x = k0_pay1 x := by
  unfold labelsOf
  rw [View.ld_unit_lit _ x (by decide)]
  exact View.canon_cons_unit_lit _ _ _ (by decide)

theorem index0 : ∀ t : Fin cfg0.N, win0_0.index t = ![t.val, 0, 0] := (by decide +kernel : ∀ t : Fin grid0.N, _)
theorem index1 : ∀ t : Fin cfg0.N, win0_1.index t = ![0, t.val] := (by decide +kernel : ∀ t : Fin grid0.N, _)

variable (m : (ℓ : Loc nD τ sig) → Buf (Elt Ideal) ℓ)

/-- The scores, as the reference reads them. -/
abbrev scores (d : Dev nD) : FVec Ideal Cert.ReferenceIdeal.S2048x16x1024 .f32 := m ((SparseCore.T d : Thread nD τ).loc main_arg0)

/-- What a point's block of scores holds. -/
theorem blk_apply (d : Dev nD) (t : Fin cfg0.N) (s : Fin 256) (b : Fin 16) (k : Fin 1024) (h : t.val * 256 + s.val < 2048) :
    blk m d 0 t (ix3 s b k) = scores m d (ix3 ⟨t.val * 256 + s.val, h⟩ b k) := by
  show m ((SparseCore.T d : Thread nD τ).loc main_arg0) (((cfg0.win 0).blk t).view.emb (ix3 s b k)) = _
  refine congrArg (m ((SparseCore.T d : Thread nD τ).loc main_arg0)) ?_
  funext a
  apply Fin.ext
  match a with
  | ⟨0, _⟩ => blk_simp [index0]
  | ⟨1, _⟩ => blk_simp [index0]
  | ⟨2, _⟩ => blk_simp [index0]

theorem labels_eq (d : Dev nD) : labels m d = Ref.labR (scores m d) := by
  unfold labels
  refine (dat m d).arrAt_eq_of_covers 1 _ (by decide +kernel) fun t hf y => ?_
  blk_simp
  rw [dat_after1, labelsOf_eq]
  have ht : t.val < 8 := t.isLt
  have hs : (y 1).val < 256 := (y 1).isLt
  have h : t.val * 256 + (y 1).val < 2048 := by omega
  have e := Argmax.pay1_eq (blk m d 0 t) (scores m d) (y 1) ⟨t.val * 256 + (y 1).val, h⟩ (y 0) fun k => blk_apply m d t (y 1) (y 0) k h
  have hy : y = ix2 (n0 := 16) (n1 := 256) (y 0) (y 1) := eq_ix2 (n0 := 16) (n1 := 256) y
  refine (congrArg (k0_pay1 (F := Ideal) (blk m d 0 t)) hy).trans (e.trans (congrArg (Ref.labR (scores m d)) ?_))
  funext a
  apply Fin.ext
  match a with
  | ⟨0, _⟩ => blk_simp [index1]; rfl
  | ⟨1, _⟩ => blk_simp [index1]; rfl

/-- The numbers kept, read off the kernel's sixteen lanes. -/
theorem lenRes_eq (d : Dev nD) :
    lenRes m d = Ref.lenR (Ref.keepR (Ref.labR (scores m d)) (m (lensLoc d))) := by
  funext j
  obtain ⟨b, rfl⟩ : ∃ b : Fin 16, j = ix1 b := ⟨j 0, eq_ix1 j⟩
  refine Eq.trans ?_ (Ref.lenR_apply (Ref.labR (scores m d)) (m (lensLoc d)) b).symm
  unfold lenRes
  refine (shapeCast_apply _ shapeCasts_S16x1_S16 (ix1 b) (ix2 b (0 : Fin 1)) (by
    rw [Shape.rowMajor_val_two, Shape.rowMajor_val_one]
    show b.val * 1 + 0 = b.val
    omega)).trans ?_
  refine (extractStridedSlice_apply _ _ slices_S16x16_S16x1_0_0 (ix2 b (0 : Fin 1)) (ix2 b (0 : Fin 16)) (fun a => by
    match a with
    | ⟨0, _⟩ => exact (Nat.zero_add _).symm
    | ⟨1, _⟩ => rfl)).trans ?_
  unfold lenFin
  rw [labels_eq]
  rfl

theorem tokFin_eq (d : Dev nD) :
    tokFin (labels m) m d = Ref.tokR (Ref.labR (scores m d)) (Ref.keepR (Ref.labR (scores m d)) (m (lensLoc d))) := by
  unfold tokFin
  rw [labels_eq]
  exact (Ref.tokR_eq (Ref.labR (scores m d)) (m (lensLoc d))).symm

end Cert.Proof.Collapse
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Run
public import proofs.«01_k».proof.Proof.RefRun
public import proofs.«01_k».proof.Proof.RefCollapse
public import proofs.«01_k».proof.Proof.Labels
public import Idealize.ShloMosaic.Adequacy
public import Idealize.ShloMosaic.Init

@[expose] public section

set_option maxRecDepth 65536

noncomputable section

namespace Cert.Proof

open Idealize.ShloMosaic Idealize.ShloMosaic.TcCoe Idealize.SL.Sem
open Cert.Proof.Collapse (run_main tokFin labels lenRes scores tokFin_eq lenRes_eq)

section Same

variable {F : FTy → Type} [FloatOps F]

/-- The two programs run the same kernels: they are printed from one text. -/
theorem kernels_eq : @Cert.Kernel.defs₀ F _ Cert.Kernel.Gen.facts = @Cert.KernelIdeal.defs₀ F _ Cert.KernelIdeal.Gen.facts := by
  funext p ℓ a
  match p, ℓ, a with
  | .tc, 0, (_, _) => rfl
  | .tc, 1, _ => rfl
  | .scVector _ _, 1, _ => rfl
  | .scVector _ _, 0, _ => rfl
  | .scScalar _, 0, _ => rfl
  | .scScalar _, 1, _ => rfl

theorem defs_eq : @Cert.Kernel.defs F _ Cert.Kernel.Gen.facts = @Cert.KernelIdeal.defs F _ Cert.KernelIdeal.Gen.facts := by
  unfold Cert.Kernel.defs Cert.KernelIdeal.defs
  exact congrArg (fun D => Cert.KernelIdeal.sc.defs (Pipeline.defs Cert.KernelIdeal.pcfgs D)) kernels_eq

end Same

theorem frame_kernel : Cert.quiescent_Kernel := fun m ρ _ => by
  rw [defs_eq]
  exact (θ_run Cert.KernelIdeal.defs Cert.KernelIdeal.threads ⟨m, fun _ => 0, ρ⟩).mono
    (fun _ h => ⟨fun c => ⟨(h.1 c).1, (h.1 c).2.1⟩, h.2⟩) (run_main (F := Bits) m ρ)

theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The kernel and the reference end with the same tokens and the same lengths. -/
theorem algebraic : Cert.algebraic_KernelIdeal_ReferenceIdeal := by
  intro m ρ m' ρ' _ hm
  refine ⟨fun c => tokFin (labels m) m c, fun c => lenRes m c,
    (θ_run Cert.KernelIdeal.defs _ _).mono (fun _ h c => ⟨(h.1 c).2.2.1, (h.1 c).2.2.2, (h.1 c).1, (h.1 c).2.1⟩) (run_main (F := Ideal) m ρ),
    (θ_run Cert.ReferenceIdeal.defs _ _).mono (fun r h c => ?_) (Ref.run (F := Ideal) m' ρ')⟩
  obtain ⟨ht, hl, h0, h1⟩ := h c
  refine ⟨ht.trans ?_, hl.trans ?_, h0, h1⟩
  · rw [(hm c).1, (hm c).2]
    exact (tokFin_eq m c).symm
  · rw [(hm c).1, (hm c).2]
    exact (lenRes_eq m c).symm

theorem claim : Cert.Claim := ⟨Cert.Kernel.Gen.facts, Cert.KernelIdeal.Gen.facts, Cert.ReferenceIdeal.Gen.facts,
  frame_kernel, frame_kernelIdeal, Ref.frame, trivial, algebraic⟩

end Cert.Proof

end
